-- ==== Defs.lean ====
def Pre_Kernel [hPre_in_vocab : Cert.Pre_in_vocab.Facts] (m : (ℓ : Loc Cert.Kernel.nD Cert.Kernel.τ Cert.Kernel.sig) → Buf (Elt Bits) ℓ) : Prop :=
  ∀ c : Dev Cert.Kernel.nD,
    (Cert.Pre_in_vocab.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_in_vocab : Cert.Pre_in_vocab.Facts] (m : (ℓ : Loc Cert.KernelIdeal.nD Cert.KernelIdeal.τ Cert.KernelIdeal.sig) → Buf (Elt Ideal) ℓ) : Prop :=
  ∀ c : Dev Cert.KernelIdeal.nD,
    (Cert.Pre_in_vocab.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_vocab [hPre_in_vocab : Cert.Pre_in_vocab.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_vocab.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] [hPre_in_vocab : Cert.Pre_in_vocab.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_in_vocab : Cert.Pre_in_vocab.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_in_vocab [hReferenceIdeal : Cert.ReferenceIdeal.Facts] [hPre_in_vocab : Cert.Pre_in_vocab.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_vocab m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_vocab : Cert.Pre_in_vocab.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_in_vocab : Cert.Pre_in_vocab.Facts),
    quiescent_Kernel (hKernel := hKernel) (hPre_in_vocab := hPre_in_vocab)
    ∧ quiescent_KernelIdeal (hKernelIdeal := hKernelIdeal) (hPre_in_vocab := hPre_in_vocab)
    ∧ quiescent_ReferenceIdeal (hReferenceIdeal := hReferenceIdeal)
    ∧ quiescent_ReferenceIdeal_pre_in_vocab (hReferenceIdeal := hReferenceIdeal) (hPre_in_vocab := hPre_in_vocab)
    ∧ preserves_Kernel_KernelIdeal
    ∧ algebraic_KernelIdeal_ReferenceIdeal (hKernelIdeal := hKernelIdeal) (hReferenceIdeal := hReferenceIdeal) (hPre_in_vocab := hPre_in_vocab)
-- ==== Pre_in_vocab.lean ====
abbrev S16384x6 : Shape := ⟨2, ![16384, 6]⟩
abbrev S1000000x128 : Shape := ⟨2, ![1000000, 128]⟩
abbrev S768x128 : Shape := ⟨2, ![768, 128]⟩
abbrev S128 : Shape := ⟨1, ![128]⟩
abbrev S128x91 : Shape := ⟨2, ![128, 91]⟩
abbrev S91 : Shape := ⟨1, ![91]⟩
abbrev S_ : Shape := ⟨0, ![]⟩

class Facts : Prop where
  bcast_S_S16384x6 : S_.BroadcastsInDim S16384x6 (![] : Fin 0 → Fin S16384x6.rank)
  reducesTo_S16384x6_S_d0_1 : S16384x6.ReducesTo [0, 1] S_
  h_S_ : 0 < S_.numel

variable [Facts]

def fn {F : FTy → Type} [FloatOps F] (main_arg0 : IVec S16384x6 32) (main_arg1 : FVec F S1000000x128 .f32) (main_arg2 : FVec F S768x128 .f32) (main_arg3 : FVec F S128 .f32) (main_arg4 : FVec F S128x91 .f32) (main_arg5 : FVec F S91 .f32) : IVec S_ 1 :=
  let main_c : IVec S_ 32 := constantI S_ 32 0#32
  let main_v0 : IVec S16384x6 32 := broadcastInDim S16384x6 ![] bcast_S_S16384x6 main_c
  let main_v1 : IVec S16384x6 1 := cmpi .sge main_arg0 main_v0
  let main_c_0 : IVec S_ 32 := constantI S_ 32 1000000#32
  let main_v2 : IVec S16384x6 32 := broadcastInDim S16384x6 ![] bcast_S_S16384x6 main_c_0
  let main_v3 : IVec S16384x6 1 := cmpi .slt main_arg0 main_v2
  let main_v4 : IVec S16384x6 1 := andi main_v1 main_v3
  let main_c_1 : IVec S_ 1 := constantI S_ 1 1#1
  let main_v5 : IVec S_ 1 := (fun x v => Host.reduce IntOp.andi x v reducesTo_S16384x6_S_d0_1 h_S_) main_v4 main_c_1
  main_v5
-- ==== Kernel.lean ====
abbrev S16384x6 : Shape := ⟨2, ![16384, 6]⟩
abbrev S1000000x128 : Shape := ⟨2, ![1000000, 128]⟩
abbrev S768x128 : Shape := ⟨2, ![768, 128]⟩
abbrev S128 : Shape := ⟨1, ![128]⟩
abbrev S128x91 : Shape := ⟨2, ![128, 91]⟩
abbrev S91 : Shape := ⟨1, ![91]⟩
abbrev S6x16384 : Shape := ⟨2, ![6, 16384]⟩
abbrev S98304 : Shape := ⟨1, ![98304]⟩
abbrev S98304x128 : Shape := ⟨2, ![98304, 128]⟩
abbrev S3072 : Shape := ⟨1, ![3072]⟩
abbrev S3x256x128 : Shape := ⟨3, ![3, 256, 128]⟩
abbrev S_ : Shape := ⟨0, ![]⟩
abbrev S1x256x128 : Shape := ⟨3, ![1, 256, 128]⟩
abbrev S256x128 : Shape := ⟨2, ![256, 128]⟩
abbrev S256 : Shape := ⟨1, ![256]⟩
abbrev S6x16384x128 : Shape := ⟨3, ![6, 16384, 128]⟩
abbrev S6x128x128 : Shape := ⟨3, ![6, 128, 128]⟩
abbrev S1x128 : Shape := ⟨2, ![1, 128]⟩
abbrev S1x91 : Shape := ⟨2, ![1, 91]⟩
abbrev S16384x91 : Shape := ⟨2, ![16384, 91]⟩
abbrev S6x1024x128 : Shape := ⟨3, ![6, 1024, 128]⟩
abbrev S1024x91 : Shape := ⟨2, ![1024, 91]⟩
abbrev S1x1024x128 : Shape := ⟨3, ![1, 1024, 128]⟩
abbrev S1024x128 : Shape := ⟨2, ![1024, 128]⟩
abbrev S1x128x128 : Shape := ⟨3, ![1, 128, 128]⟩
abbrev S128x128 : Shape := ⟨2, ![128, 128]⟩

abbrev nBuf : Table → Nat
  | .hbm => 14
  | .local .tc .vmem => 8
  | .local .scVector .vmem => 2
  | _ => 0

abbrev bufTy : (tb : Table) → Fin (nBuf tb) → BufTy
  | .hbm, ⟨0, _⟩ => ⟨S16384x6, .i32⟩
  | .hbm, ⟨1, _⟩ => ⟨S1000000x128, .f32⟩
  | .hbm, ⟨2, _⟩ => ⟨S768x128, .f32⟩
  | .hbm, ⟨3, _⟩ => ⟨S128, .f32⟩
  | .hbm, ⟨4, _⟩ => ⟨S128x91, .f32⟩
  | .hbm, ⟨5, _⟩ => ⟨S91, .f32⟩
  | .hbm, ⟨6, _⟩ => ⟨S6x16384, .i32⟩
  | .hbm, ⟨7, _⟩ => ⟨S98304, .i32⟩
  | .hbm, ⟨8, _⟩ => ⟨S98304x128, .f32⟩
  | .hbm, ⟨9, _⟩ => ⟨S6x16384x128, .f32⟩
  | .hbm, ⟨10, _⟩ => ⟨S6x128x128, .f32⟩
  | .hbm, ⟨11, _⟩ => ⟨S1x128, .f32⟩
  | .hbm, ⟨12, _⟩ => ⟨S1x91, .f32⟩
  | .hbm, ⟨13, _⟩ => ⟨S16384x91, .f32⟩
  | .local .tc .vmem, ⟨0, _⟩ => ⟨S6x1024x128, .f32⟩
  | .local .tc .vmem, ⟨1, _⟩ => ⟨S6x1024x128, .f32⟩
  | .local .tc .vmem, ⟨2, _⟩ => ⟨S6x128x128, .f32⟩
  | .local .tc .vmem, ⟨3, _⟩ => ⟨S1x128, .f32⟩
  | .local .tc .vmem, ⟨4, _⟩ => ⟨S128x91, .f32⟩
  | .local .tc .vmem, ⟨5, _⟩ => ⟨S1x91, .f32⟩
  | .local .tc .vmem, ⟨6, _⟩ => ⟨S1024x91, .f32⟩
  | .local .tc .vmem, ⟨7, _⟩ => ⟨S1024x91, .f32⟩
  | .local .scVector .vmem, ⟨0, _⟩ => ⟨S3072, .i32⟩
  | .local .scVector .vmem, ⟨1, _⟩ => ⟨S3x256x128, .f32⟩
  | _, _ => ⟨S16384x6, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 15 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTables nBuf rfl bufTy 4 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_arg1_scv : Ref sig .scVector := ⟨.hbm, 1, rfl⟩
abbrev main_v1_scv : Ref sig .scVector := ⟨.hbm, 7, rfl⟩
abbrev main_v2_scv : Ref sig .scVector := ⟨.hbm, 8, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg2_0 : Ref sig .tc := ⟨.vmem, 3, rfl⟩
abbrev cc1_stg3_0 : Ref sig .tc := ⟨.vmem, 4, rfl⟩
abbrev cc1_stg4_0 : Ref sig .tc := ⟨.vmem, 5, rfl⟩
abbrev cc1_stg5_0 : Ref sig .tc := ⟨.vmem, 6, rfl⟩
abbrev cc1_stg5_1 : Ref sig .tc := ⟨.vmem, 7, rfl⟩
abbrev cc0_scratch0 : Ref sig .scVector := ⟨.vmem, 0, rfl⟩
abbrev cc0_scratch1 : Ref sig .scVector := ⟨.vmem, 1, rfl⟩
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem5_1 : DmaSem sig := 14
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3072_i32 : BitVec 32 := 3072#32
  let v2 : BitVec 32 := Scalar.muli v1 c3072_i32
  ![v2.toNat]
def k0_off2 (i : grid0.Coords) (c0_i32_20 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3072_i32 : BitVec 32 := 3072#32
  let v2 : BitVec 32 := Scalar.muli v1 c3072_i32
  let v19 : BitVec 32 := Scalar.addi v2 c0_i32_20
  let c0_i32_24 : BitVec 32 := 0#32
  ![v19.toNat, 0]
abbrev grid1 : Pipeline.Grid := ⟨1, ![16], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S6x1024x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S6x128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x91 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x91 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1024x91 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384x6 : Shape := ⟨2, ![16384, 6]⟩
abbrev S1000000x128 : Shape := ⟨2, ![1000000, 128]⟩
abbrev S768x128 : Shape := ⟨2, ![768, 128]⟩
abbrev S128 : Shape := ⟨1, ![128]⟩
abbrev S128x91 : Shape := ⟨2, ![128, 91]⟩
abbrev S91 : Shape := ⟨1, ![91]⟩
abbrev S_ : Shape := ⟨0, ![]⟩
abbrev S16384x6x1 : Shape := ⟨3, ![16384, 6, 1]⟩
abbrev S1 : Shape := ⟨1, ![1]⟩
abbrev S1x1x1 : Shape := ⟨3, ![1, 1, 1]⟩
abbrev S16384x6x128 : Shape := ⟨3, ![16384, 6, 128]⟩
abbrev S16384x768 : Shape := ⟨2, ![16384, 768]⟩
abbrev S16384x128 : Shape := ⟨2, ![16384, 128]⟩
abbrev S1x128 : Shape := ⟨2, ![1, 128]⟩
abbrev S16384x91 : Shape := ⟨2, ![16384, 91]⟩
abbrev S1x91 : Shape := ⟨2, ![1, 91]⟩

abbrev nBuf : Space → Nat
  | .hbm => 41
  | .vmem => 0
  | .smem => 0
  | _ => 0

abbrev bufTy : (tb : Table) → Fin (tcTables nBuf tb) → BufTy
  | .hbm, ⟨0, _⟩ => ⟨S16384x6, .i32⟩
  | .hbm, ⟨1, _⟩ => ⟨S1000000x128, .f32⟩
  | .hbm, ⟨2, _⟩ => ⟨S768x128, .f32⟩
  | .hbm, ⟨3, _⟩ => ⟨S128, .f32⟩
  | .hbm, ⟨4, _⟩ => ⟨S128x91, .f32⟩
  | .hbm, ⟨5, _⟩ => ⟨S91, .f32⟩
  | .hbm, ⟨6, _⟩ => ⟨S_, .i32⟩
  | .hbm, ⟨7, _⟩ => ⟨S16384x6, .i32⟩
  | .hbm, ⟨8, _⟩ => ⟨S16384x6, .i1⟩
  | .hbm, ⟨9, _⟩ => ⟨S_, .i32⟩
  | .hbm, ⟨10, _⟩ => ⟨S16384x6, .i32⟩
  | .hbm, ⟨11, _⟩ => ⟨S16384x6, .i32⟩
  | .hbm, ⟨12, _⟩ => ⟨S16384x6, .i32⟩
  | .hbm, ⟨13, _⟩ => ⟨S16384x6x1, .i32⟩
  | .hbm, ⟨14, _⟩ => ⟨S1, .i32⟩
  | .hbm, ⟨15, _⟩ => ⟨S_, .i32⟩
  | .hbm, ⟨16, _⟩ => ⟨S16384x6x1, .i32⟩
  | .hbm, ⟨17, _⟩ => ⟨S16384x6x1, .i1⟩
  | .hbm, ⟨18, _⟩ => ⟨S1x1x1, .i32⟩
  | .hbm, ⟨19, _⟩ => ⟨S16384x6x1, .i32⟩
  | .hbm, ⟨20, _⟩ => ⟨S16384x6x1, .i1⟩
  | .hbm, ⟨21, _⟩ => ⟨S16384x6x1, .i1⟩
  | .hbm, ⟨22, _⟩ => ⟨S_, .i1⟩
  | .hbm, ⟨23, _⟩ => ⟨S16384x6, .i1⟩
  | .hbm, ⟨24, _⟩ => ⟨S16384x6x128, .f32⟩
  | .hbm, ⟨25, _⟩ => ⟨S16384x6x128, .i1⟩
  | .hbm, ⟨26, _⟩ => ⟨S_, .f32⟩
  | .hbm, ⟨27, _⟩ => ⟨S16384x6x128, .f32⟩
  | .hbm, ⟨28, _⟩ => ⟨S16384x6x128, .f32⟩
  | .hbm, ⟨29, _⟩ => ⟨S16384x768, .f32⟩
  | .hbm, ⟨30, _⟩ => ⟨S16384x128, .f32⟩
  | .hbm, ⟨31, _⟩ => ⟨S1x128, .f32⟩
  | .hbm, ⟨32, _⟩ => ⟨S16384x128, .f32⟩
  | .hbm, ⟨33, _⟩ => ⟨S16384x128, .f32⟩
  | .hbm, ⟨34, _⟩ => ⟨S_, .f32⟩
  | .hbm, ⟨35, _⟩ => ⟨S16384x128, .f32⟩
  | .hbm, ⟨36, _⟩ => ⟨S16384x128, .f32⟩
  | .hbm, ⟨37, _⟩ => ⟨S16384x91, .f32⟩
  | .hbm, ⟨38, _⟩ => ⟨S1x91, .f32⟩
  | .hbm, ⟨39, _⟩ => ⟨S16384x91, .f32⟩
  | .hbm, ⟨40, _⟩ => ⟨S16384x91, .f32⟩
  | _, _ => ⟨S16384x6, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_call1_cst : Ref sig .tc := ⟨.hbm, 34, rfl⟩
abbrev main_call1_v0 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩

abbrev nD : Nat := 1
abbrev τ : Topo := Topo.v7x

variable {F : FTy → Type} [FloatOps F]
-- ==== Proof.Setup.lean ====
/-
  What every later module speaks of: the program as the launch theorem takes it, the arrays of the lookup, the value
  the lookup leaves (`looked`: row `j` of the result is the table row the flat index list names at `j`), the pieces the
  two SparseCores' thirty-two tasks are handed, and the handshakes' payloads.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.ShareLeaves
public import Idealize.ShloMosaic.Lib.Tactic
public import proofs.«01_k».proof.Proof.Gen.KernelIdeal
public import proofs.«01_k».proof.Proof.Gen.KernelIdeal.Skeleton

@[expose] public section

noncomputable section

namespace Cert.Proof.Lookup

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem takes it -/

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The ghosts: the handshakes' rounds, the perceptron's staging rounds, the local copies' counters. -/
abbrev UH : Type := URounds (GSem nD τ sig) ℕ
abbrev UP : Type := URounds (GSem nD τ sig) Unit
abbrev UU : Type := UH × (UP × Counters)
local notation "𝕄" => MT nD τ sig (HIx 1) (Elt F) ℕ UU ℕ
abbrev EH : Emb UH (MT nD τ sig (HIx 1) (Elt F) ℕ UU ℕ) := embL

/-! ## The arrays of the lookup -/

abbrev aLoc (d : Dev nD) : Loc nD τ sig := (SparseCore.T d).loc main_arg0
abbrev xLoc (d : Dev nD) : Loc nD τ sig := (SparseCore.T d).loc main_arg1
abbrev iLoc (d : Dev nD) : Loc nD τ sig := (SparseCore.T d).loc main_v1
abbrev oLoc (d : Dev nD) : Loc nD τ sig := (SparseCore.T d).loc main_v2

abbrev xV : Memref sig .scVector .hbm S1000000x128 .f32 := Memref.whole main_arg1_scv
abbrev iV : Memref sig .scVector .hbm S98304 .i32 := Memref.whole main_v1_scv
abbrev oV : Memref sig .scVector .hbm S98304x128 .f32 := Memref.whole main_v2_scv
abbrev lV : Memref sig .scVector .vmem S3072 .i32 := Memref.whole cc0_scratch0
abbrev tV : Memref sig .scVector .vmem S3x256x128 .f32 := Memref.whole cc0_scratch1

variable [FloatOps F]
variable (m : (ℓ : Loc nD τ sig) → Buf (Elt F) ℓ)

/-- The flat index list the two host operations before the call leave: the indices, field-major. -/
def flat (d : Dev nD) : Buf (Elt F) (iLoc d) :=
  shapeCast S98304 (transpose S6x16384 [1, 0] (m (aLoc d)) transposes_S16384x6_S6x16384_1_0 : S6x16384.Idx → BitVec 32) shapeCasts_S6x16384_S98304

/-- Every word of the flat list names a row of the table. -/
def InRange : Prop := ∀ (d : Dev nD) (j : S98304.Idx), (flat m d j : BitVec 32).toNat < 1000000

/-- A word as a row of the table: itself when in range. -/
def asRow (w : BitVec 32) : Fin 1000000 := Fin.ofNat 1000000 w.toNat

/-- What the lookup leaves: row `j` of the result is the table's row named by entry `j` of the flat list. -/
def looked (d : Dev nD) : Buf (Elt F) (oLoc d) := fun j =>
  (m (xLoc d) : S1000000x128.Idx → F .f32)
    (fun | 0 => asRow (flat m d (fun | 0 => j 0)) | 1 => j 1 : S1000000x128.Idx)

/-! ## A task's pieces, in the body's spelling -/

section Tile
variable (L : grid0.Coords) (d : Dev nD)

abbrev cV : Fin τ.nSC := (L 0).castLE hcore0
abbrev jV : Fin τ.nSub := (L 1).castLE hsub0
abbrev VT : Thread nD τ := V d (cV L) (jV L)

/-- The task's slice of the flat list, and the rows of the result its twelve chunks write. -/
abbrev iK : Memref sig .scVector .hbm S3072 .i32 := (iV).slice (Rect.unit (s := S98304) (k0_off1 L) S3072.size (k0_off1_inb L)) (fun _ => rfl)
abbrev oRect (c : Fin 12) : Rect S98304x128 := Rect.unit (s := S98304x128) (k0_off2 L (BitVec.ofNat 32 (256 * c.val))) S256x128.size (k0_off2_inb L c)
abbrev oK (c : Fin 12) : Memref sig .scVector .hbm S256x128 .f32 := (oV).slice (oRect L c) (fun _ => rfl)
/-- The three slabs of the stage. -/
abbrev tK0 : Memref sig .scVector .vmem S256x128 .f32 := ((tV).slice (Rect.unit (s := S3x256x128) ![0, 0, 0] S1x256x128.size inb_S3x256x128_S1x256x128_0_0_0) (fun _ => rfl)).squeeze S256x128 squeezes_S1x256x128_S256x128
abbrev tK1 : Memref sig .scVector .vmem S256x128 .f32 := ((tV).slice (Rect.unit (s := S3x256x128) ![1, 0, 0] S1x256x128.size inb_S3x256x128_S1x256x128_1_0_0) (fun _ => rfl)).squeeze S256x128 squeezes_S1x256x128_S256x128
abbrev tK2 : Memref sig .scVector .vmem S256x128 .f32 := ((tV).slice (Rect.unit (s := S3x256x128) ![2, 0, 0] S1x256x128.size inb_S3x256x128_S1x256x128_2_0_0) (fun _ => rfl)).squeeze S256x128 squeezes_S1x256x128_S256x128
/-- The seven DMA cells a task names: the three gathers', the three write-backs', the index copy's. -/
abbrev csem (k : Fin 7) : DmaSem sig := ⟨k.val, by have := k.isLt; exact Nat.lt_of_lt_of_le this (by decide)⟩
abbrev cell (k : Fin 7) : GSem nD τ sig := (VT L d, SemLoc.dma (csem k))

end Tile

end Cert.Proof.Lookup
-- ==== Proof.Chunk.lean ====
/-
  One chunk of a task as a value: the list the index copy lands in the task's memory, the rows its windows name in the
  table, and that the gather of chunk `r` delivers exactly the rows of the result the task writes at chunk `r`.
-/
module

public import proofs.«01_k».proof.Proof.Setup

@[expose] public section

noncomputable section

namespace Cert.Proof.Lookup

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
variable (m : (ℓ : Loc nD τ sig) → Buf (Elt F) ℓ)
variable (L : grid0.Coords) (d : Dev nD)
local notation "𝕄" => MT nD τ sig (HIx 1) (Elt F) ℕ UU ℕ

/-- The task's list: its slice of the flat list. -/
def tlist : Buf (Elt F) ((lV).view.loc (VT L d)) := (iK L).view.read (Elt F) (flat m d)

theorem tlist_apply (j : S3072.Idx) : tlist m L d j = flat m d ((iK L).view.emb j) :=
  (View.read_apply _ _).trans (cast_eq _ _)

/-- A window of 256 entries of the list. -/
abbrev lK (o : Nat) (h : ∀ a, (![o] : Fin 1 → Nat) a + S256.size a ≤ S3072.size a) : Memref sig .scVector .vmem S256 .i32 :=
  (lV).slice (Rect.unit (s := S3072) ![o] S256.size h) (fun _ => rfl)

/-- Every word of any window of the task's list names a row of the table. -/
theorem tlist_inRange (hin : InRange m) (o : Fin 1 → Nat) (h : ∀ a, o a + S256.size a ≤ S3072.size a)
    (hs : ∀ a, (Rect.unit (s := S3072) o S256.size h).stride a = 1) :
    ∀ x, (View.read (Elt F) ((lV).slice (Rect.unit (s := S3072) o S256.size h) hs).view (tlist m L d) x).toNat < 1000000 := by
  intro x
  rw [View.read_apply]
  exact (congrArg BitVec.toNat (tlist_apply m L d _)).trans_lt (hin d _)

/-- The index copy leaves the list in the task's memory. -/
theorem list_landed (w : S3072.Idx → Elt F .i32) (hw : w = (iK L).view.read (Elt F) (flat m d)) (f : Buf (Elt F) ((lV).view.loc (VT L d))) :
    ((lV).view.loc (VT L d) ↦[(lV).view.set]{fullShare} (lV).view.writes (Elt F) f [⟨Rect.whole S3072, w⟩] : sProp 𝕄)
      ⊢ ((lV).view.loc (VT L d) ↦[(lV).view.set]{fullShare} tlist m L d : sProp 𝕄) := by
  subst hw
  refine Entails.of_eq (congrArg (fun g => ((lV).view.loc (VT L d) ↦[(lV).view.set]{fullShare} g : sProp 𝕄)) ?_)
  have h := View.read_writes_whole (Val := Elt F) (lV).view f ((iK L).view.read (Elt F) (flat m d))
  unfold tlist
  exact (View.read_whole (Val := Elt F) _ _).symm.trans h

/-- Chunk `r`'s rows of the result. -/
def chunk (r : Fin 12) : S256x128.Idx → Elt F .f32 := fun x => looked m d ((oK L r).view.emb x)

theorem rowMajor_symm_S256 (k : Fin S256.numel) : ((S256.rowMajor.symm k) 0).val = k.val := by
  have h := Shape.rowMajor_val_one (S256.rowMajor.symm k)
  rw [Equiv.apply_symm_apply] at h
  exact h.symm

/-- Where entry `x` of a window of the task's list is in the flat list. -/
theorem iK_emb (y : S3072.Idx) : ((iK L).view.emb y 0).val = 6144 * (L 1).val + 3072 * (L 0).val + (y 0).val := by
  show k0_off1 L 0 + 1 * (y 0).val = _
  rw [k0_off1_eq]; simp

theorem oK_emb_row (r : Fin 12) (x : S256x128.Idx) : ((oK L r).view.emb x 0).val = 6144 * (L 1).val + 3072 * (L 0).val + 256 * r.val + (x 0).val := by
  show k0_off2 L (BitVec.ofNat 32 (256 * r.val)) 0 + 1 * (x 0).val = _
  rw [k0_off2_eq]; simp

theorem oK_emb_col (r : Fin 12) (x : S256x128.Idx) : ((oK L r).view.emb x 1).val = (x 1).val := by
  show k0_off2 L (BitVec.ofNat 32 (256 * r.val)) 1 + 1 * (x 1).val = _
  rw [k0_off2_eq]; simp

/-- THE CHUNK'S VALUE: gathering the table's rows at window `256 r` of the list gives the result's rows of chunk `r`. -/
theorem gather_chunk (hin : InRange m) (r : Fin 12) (o : Fin 1 → Nat) (ho : o 0 = 256 * r.val) (h : ∀ a, o a + S256.size a ≤ S3072.size a)
    (hs : ∀ a, (Rect.unit (s := S3072) o S256.size h).stride a = 1)
    (hx : ∀ a, (![0, 0] : Fin 2 → Nat) a + S1000000x128.size a ≤ S1000000x128.size a)
    (hsx : ∀ a, (Rect.unit (s := S1000000x128) ![0, 0] S1000000x128.size hx).stride a = 1)
    (hn : S256.numel = S256x128.size gathers_S1000000x128_S256x128.axis')
    (hl : ∀ x, (View.read (Elt F) ((lV).slice (Rect.unit (s := S3072) o S256.size h) hs).view (tlist m L d) x).toNat < S1000000x128.size gathers_S1000000x128_S256x128.axis) :
    SparseCore.gatherPayload (F := F) gathers_S1000000x128_S256x128
        (View.read (Elt F) ((xV).slice (Rect.unit (s := S1000000x128) ![0, 0] S1000000x128.size hx) hsx).view (m (xLoc d)))
        (SparseCore.rows (View.read (Elt F) ((lV).slice (Rect.unit (s := S3072) o S256.size h) hs).view (tlist m L d)) hn hl)
      = chunk m L d r := by
  funext x
  unfold SparseCore.gatherPayload chunk looked
  rw [View.read_apply]
  refine (cast_eq _ _).trans (congrArg (m (xLoc d)) (funext fun a => ?_))
  apply Fin.ext
  match a with
  | 0 =>
    show 0 + 1 * (Shape.Gathers.idx _ _ x (gathers_S1000000x128_S256x128.axis)).val = (asRow _).val
    rw [Shape.Gathers.idx_axis]
    unfold SparseCore.rows asRow
    have e : ∀ y : S256.Idx, y 0 = x 0 → (View.read (Elt F) ((lV).slice (Rect.unit (s := S3072) o S256.size h) hs).view (tlist m L d) y : BitVec 32)
        = flat m d (fun | 0 => (oK L r).view.emb x 0) := by
      intro y hy
      rw [View.read_apply]
      refine (cast_eq _ _).trans ((tlist_apply m L d _).trans (congrArg (flat m d) (funext fun b => ?_)))
      apply Fin.ext
      match b with
      | 0 =>
        refine (iK_emb L _).trans ?_
        show _ + (o 0 + 1 * (y 0).val) = ((oK L r).view.emb x 0).val
        rw [oK_emb_row, ho, hy]; omega
    exact (Nat.zero_add _).trans ((Nat.one_mul _).trans ((congrArg BitVec.toNat (e (S256.rowMajor.symm _) (Fin.ext (rowMajor_symm_S256 _)))).trans
      (Nat.mod_eq_of_lt (hin d _)).symm))
  | 1 =>
    show 0 + 1 * (Shape.Gathers.idx gathers_S1000000x128_S256x128 _ x (1 : Fin 2)).val = ((oK L r).view.emb x 1).val
    rw [Shape.Gathers.idx_of_ne _ _ _ _ (by decide), oK_emb_col]; simp

end Cert.Proof.Lookup
-- ==== Proof.Tile.lean ====
/-
  One task's run, part by part, the value carried: between two parts one slab of the stage holds a gathered chunk and
  the two next chunks' gathers are in flight; a part writes the held chunk's rows of the result, starts the gather of the
  chunk three on into the slab just written from, and waits for the next chunk.
-/
module

public import proofs.«01_k».proof.Proof.Chunk

@[expose] public section

noncomputable section

namespace Cert.Proof.Lookup

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
variable (m : (ℓ : Loc nD τ sig) → Buf (Elt F) ℓ)
variable (L : grid0.Coords) (d : Dev nD)
local notation "𝕄" => MT nD τ sig (HIx 1) (Elt F) ℕ UU ℕ

/-- Chunk `r`'s rows of the result, at the body's literal. -/
abbrev oP (v : BitVec 32) (r : Fin 12) (h : v = BitVec.ofNat 32 (256 * r.val) := by rfl) : Memref sig .scVector .hbm S256x128 .f32 :=
  (oV).slice (Rect.unit (s := S98304x128) (k0_off2 L v) S256x128.size (h ▸ k0_off2_inb L r)) (fun _ => rfl)

/-- The table as the gathers name it: all of it, as a window. -/
abbrev xW : Memref sig .scVector .hbm S1000000x128 .f32 :=
  (xV).slice (Rect.unit (s := S1000000x128) ![0, 0] S1000000x128.size inb_S1000000x128_S1000000x128_0_0) (fun _ => rfl)

/-- A read token of the table. -/
abbrev Tok (q : PosShare TreeShare) (k : Fin 7) : sProp 𝕄 :=
  (xW).view.loc (VT L d) ↦[(xW).view.set]{Transfers.shareTokN q k.val} m (xLoc d)
/-- A slab holding chunk `r`, over some earlier contents `f`. -/
abbrev Held (tk : Memref sig .scVector .vmem S256x128 .f32) (r : Fin 12) (f : Buf (Elt F) (tk.view.loc (VT L d))) : sProp 𝕄 :=
  tk.view.loc (VT L d) ↦[tk.view.set]{fullShare} tk.view.writes (Elt F) f [⟨Rect.whole S256x128, chunk m L d r⟩]
/-- A chunk's window of the list of row numbers. -/
abbrev Win (o : Nat) (h : ∀ a, (![o] : Fin 1 → Nat) a + S256.size a ≤ S3072.size a) : sProp 𝕄 :=
  (lK o h).view.loc (VT L d) ↦[(lK o h).view.set]{fullShare} tlist m L d
/-- The gather of chunk `r` in flight into a slab, its window of the list and its read token with it. -/
abbrev Flying (tk : Memref sig .scVector .vmem S256x128 .f32) (k : Fin 7) (o : Nat) (h : ∀ a, (![o] : Fin 1 → Nat) a + S256.size a ≤ S3072.size a) (r : Fin 12)
    (q : PosShare TreeShare) (f : Buf (Elt F) (tk.view.loc (VT L d))) : sProp 𝕄 :=
  Transfers.Flight countersEmb (VT L d) (SemLoc.dma (csem k)) (default : HIx 1) 1048576
    iprop((Held m L d tk r f ∗ Win m L d o h) ∗ Tok m L d q k)

/-- Chunk `r`'s rows of the result, holding contents `f`. -/
abbrev OutAt (v : BitVec 32) (r : Fin 12) (f : Buf (Elt F) (oLoc d)) (h : v = BitVec.ofNat 32 (256 * r.val) := by rfl) : sProp 𝕄 :=
  (oP L v r h).view.loc (VT L d) ↦[(oP L v r h).view.set]{fullShare} f

/-- The rows of chunk `r` written with the chunk are the result's. -/
theorem out_landed (v : BitVec 32) (r : Fin 12) (h : v = BitVec.ofNat 32 (256 * r.val)) (f : Buf (Elt F) (oLoc d)) :
    (OutAt (F := F) L d v r ((oP L v r h).view.writes (Elt F) f [⟨Rect.whole S256x128, chunk m L d r⟩]) h : sProp 𝕄) ⊢ OutAt (F := F) L d v r (looked m d) h := by
  subst h
  refine Entails.of_eq (pointsTo_congr fun i hi => ?_)
  obtain ⟨x, -, rfl⟩ := Finset.mem_map.mp hi
  have e := congrFun (View.read_writes_whole (Val := Elt F) (oP L _ r rfl).view f (chunk m L d r)) x
  rw [View.read_apply] at e
  exact (cast_eq _ _).symm.trans e

/-- The write-back of chunk `r` in flight from a slab. -/
abbrev Writing (v : BitVec 32) (tk : Memref sig .scVector .vmem S256x128 .f32) (k : Fin 7) (r : Fin 12)
    (f : Buf (Elt F) (tk.view.loc (VT L d))) (h : v = BitVec.ofNat 32 (256 * r.val) := by rfl) : sProp 𝕄 :=
  Transfers.Flight countersEmb (VT L d) (SemLoc.dma (csem k)) (default : HIx 1) 1048576
    iprop(OutAt (F := F) L d v r ((oP L v r h).view.writes (Elt F) (m (oLoc d)) [⟨Rect.whole S256x128, chunk m L d r⟩]) h ∗ Held m L d tk r f)

end Cert.Proof.Lookup
-- ==== Proof.PartsA.lean ====
/-
  One task's run, part by part, the value carried: between two parts one slab of the stage holds a gathered chunk and
  the two next chunks' gathers are in flight; a part writes the held chunk's rows of the result, starts the gather of the
  chunk three on into the slab just written from, and waits for the next chunk.
-/
module

public import proofs.«01_k».proof.Proof.Tile

@[expose] public section

noncomputable section

namespace Cert.Proof.Lookup

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
variable (m : (ℓ : Loc nD τ sig) → Buf (Elt F) ℓ)
variable (L : grid0.Coords) (d : Dev nD)
local notation "𝕄" => MT nD τ sig (HIx 1) (Elt F) ℕ UU ℕ

abbrev Args (G : (i : grid0.Coords) → (arg2 : Memref sig .scVector .hbm S1000000x128 .f32) → (harg2 : arg2.IsWhole) → (arg3 : Memref sig .scVector .hbm S98304 .i32) → (harg3 : arg3.IsWhole) → (arg4 : Memref sig .scVector .hbm S98304x128 .f32) → (harg4 : arg4.IsWhole) → (arg5 : Memref sig .scVector .vmem S3072 .i32) → (harg5 : arg5.IsWhole) → (arg6 : Memref sig .scVector .vmem S3x256x128 .f32) → (harg6 : arg6.IsWhole) → (arg7 : DmaSems sig S_) → (arg8 : DmaSems sig S_) → (arg9 : DmaSems sig S_) → (arg10 : DmaSems sig S_) → (arg11 : DmaSems sig S_) → (arg12 : DmaSems sig S_) → (v255_r0 : DmaSems sig S_) → (v2 : BitVec 32) →
    Prog (TpuEff nD τ sig (Elt F) Λ₀ (.scVector ((i 0).castLE hcore0) ((i 1).castLE hsub0))) PUnit) (w : BitVec 32) : Prog (TpuEff nD τ sig (Elt F) Λ₀ (.scVector (cV L) (jV L))) PUnit :=
  G L xV (Memref.isWhole_whole _) iV (Memref.isWhole_whole _) oV (Memref.isWhole_whole _) lV (Memref.isWhole_whole _) tV (Memref.isWhole_whole _) cc0_scratch2 cc0_scratch3 cc0_scratch4 cc0_scratch5 cc0_scratch6 cc0_scratch7 cc0_scoped0 w

variable (hin : InRange m) (O : CellTallies nD τ sig (HIx 1)) (q : PosShare TreeShare)
include hin

theorem part2_run (W : Waits sig (HIx 1)) (w : BitVec 32) (f0 f1 : Buf (Elt F) ((tV).view.loc (VT L d))) :
    (iprop(Transfers.MayWaits (VT L d) (default : HIx 1) O
        ∗ OutAt (F := F) L d 0#32 0 (m (oLoc d))
        ∗ Held m L d tK0 0 f0
        ∗ semVal (cell L d 3) 0
        ∗ Tok m L d q 0
        ∗ semVal (cell L d 0) 0
        ∗ Win m L d 768 inb_S3072_S256_768
        ∗ Flying m L d tK1 1 256 inb_S3072_S256_256 1 q f1
        ∗ owes (VT L d) O W) : sProp 𝕄)
      ⊢ wp frame (wpE (defs₀ (F := F)) 𝒱₀ (VT L d) none) Set.univ (Args L k0_part2 w) fun _ => iprop(
        OutAt (F := F) L d 0#32 0 (looked m d) ∗
        semVal (cell L d 3) 0 ∗
        (∃ f, Flying m L d tK0 0 768 inb_S3072_S256_768 3 q f) ∗
        (∃ f, Held m L d tK1 1 f) ∗
        Tok m L d q 1 ∗
        semVal (cell L d 1) 0 ∗
        Win m L d 256 inb_S3072_S256_256 ∗
        ∃ W', owes (VT L d) O W') := by
  iintro ⟨#Hmw, HO0, HT0, HS3, HX0, HS0, HW3, HF1, Howe⟩
  have hl := tlist_inRange m L d hin
  unfold Args
  sl_unfold [k0_part2]
  sl_exec
  icases HF1_dst with ⟨HT1, HV1⟩
  sl_exec
  have e0 : part2_run.sl.dma0 m L d f0 = chunk m L d 0 := View.read_writes_whole (Val := Elt F) tK0.view _ (chunk m L d 0)
  have e1 : part2_run.sl.gather1 m L d hl = chunk m L d 3 := gather_chunk m L d hin 3 ![768] rfl _ _ _ _ _ _
  rw [e0, e1]
  ihave HD0 := (out_landed (F := F) m L d 0#32 0 rfl (m (oLoc d))) $$ HO0
  rw [wp_ret]; imodintro
  isplitl [HD0]; · iexact HD0
  isplitl [HS3]; · iexact HS3
  isplitl [HS0]; · iexists (tK0.view.writes (Elt F) f0 [⟨Rect.whole S256x128, chunk m L d 0⟩]); iexact HS0
  isplitl [HT1]; · iexists _; iexact HT1
  isplitl [HF1_src]; · iexact HF1_src
  isplitl [HF1]; · iexact HF1
  isplitl [HV1]; · iexact HV1
  iexists _; iexact Howe

theorem part3_run (W : Waits sig (HIx 1)) (w : BitVec 32) (f1 f2 : Buf (Elt F) ((tV).view.loc (VT L d))) :
    (iprop(Transfers.MayWaits (VT L d) (default : HIx 1) O
        ∗ OutAt (F := F) L d 256#32 1 (m (oLoc d))
        ∗ Held m L d tK1 1 f1
        ∗ semVal (cell L d 4) 0
        ∗ Tok m L d q 1
        ∗ semVal (cell L d 1) 0
        ∗ Win m L d 1024 inb_S3072_S256_1024
        ∗ Flying m L d tK2 2 512 inb_S3072_S256_512 2 q f2
        ∗ OutAt (F := F) L d 512#32 2 (m (oLoc d))
        ∗ semVal (cell L d 5) 0
        ∗ owes (VT L d) O W) : sProp 𝕄)
      ⊢ wp frame (wpE (defs₀ (F := F)) 𝒱₀ (VT L d) none) Set.univ (Args L k0_part3 w) fun _ => iprop(
        OutAt (F := F) L d 256#32 1 (looked m d) ∗
        semVal (cell L d 4) 0 ∗
        (∃ f, Flying m L d tK1 1 1024 inb_S3072_S256_1024 4 q f) ∗
        Tok m L d q 2 ∗
        semVal (cell L d 2) 0 ∗
        Win m L d 512 inb_S3072_S256_512 ∗
        (∃ f, Writing m L d 512#32 tK2 5 2 f) ∗
        ∃ W', owes (VT L d) O W') := by
  iintro ⟨#Hmw, HO1, HT1, HS4, HX1, HS1, HW4, HF2, HO2, HS5, Howe⟩
  have hl := tlist_inRange m L d hin
  unfold Args
  sl_unfold [k0_part3]
  sl_exec
  icases HF2_dst with ⟨HT2, HV2⟩
  sl_exec
  have e0 : part3_run.sl.dma0 m L d f1 = chunk m L d 1 := View.read_writes_whole (Val := Elt F) tK1.view _ (chunk m L d 1)
  have e1 : part3_run.sl.gather1 m L d hl = chunk m L d 4 := gather_chunk m L d hin 4 ![1024] rfl _ _ _ _ _ _
  have e2 : part3_run.sl.dma0_1 m L d f2 = chunk m L d 2 := View.read_writes_whole (Val := Elt F) tK2.view _ (chunk m L d 2)
  rw [e0, e1, e2]
  ihave HD1 := (out_landed (F := F) m L d 256#32 1 rfl (m (oLoc d))) $$ HO1
  rw [wp_ret]; imodintro
  isplitl [HD1]; · iexact HD1
  isplitl [HS4]; · iexact HS4
  isplitl [HS1]; · iexists (tK1.view.writes (Elt F) f1 [⟨Rect.whole S256x128, chunk m L d 1⟩]); iexact HS1
  isplitl [HF2_src]; · iexact HF2_src
  isplitl [HF2]; · iexact HF2
  isplitl [HV2]; · iexact HV2
  isplitl [HS5]; · iexists _; iexact HS5
  iexists _; iexact Howe

theorem part4_run (W : Waits sig (HIx 1)) (w : BitVec 32) (f2 f3 : Buf (Elt F) ((tV).view.loc (VT L d))) :
    (iprop(Transfers.MayWaits (VT L d) (default : HIx 1) O
        ∗ Writing m L d 512#32 tK2 5 2 f2
        ∗ Tok m L d q 2
        ∗ semVal (cell L d 2) 0
        ∗ Win m L d 1280 inb_S3072_S256_1280
        ∗ Flying m L d tK0 0 768 inb_S3072_S256_768 3 q f3
        ∗ OutAt (F := F) L d 768#32 3 (m (oLoc d))
        ∗ semVal (cell L d 3) 0
        ∗ owes (VT L d) O W) : sProp 𝕄)
      ⊢ wp frame (wpE (defs₀ (F := F)) 𝒱₀ (VT L d) none) Set.univ (Args L k0_part4 w) fun _ => iprop(
        OutAt (F := F) L d 512#32 2 (looked m d) ∗
        semVal (cell L d 5) 0 ∗
        (∃ f, Flying m L d tK2 2 1280 inb_S3072_S256_1280 5 q f) ∗
        Tok m L d q 0 ∗
        semVal (cell L d 0) 0 ∗
        Win m L d 768 inb_S3072_S256_768 ∗
        (∃ f, Writing m L d 768#32 tK0 3 3 f) ∗
        ∃ W', owes (VT L d) O W') := by
  iintro ⟨#Hmw, HR2, HX2, HS2, HW5, HF3, HO3, HS3, Howe⟩
  have hl := tlist_inRange m L d hin
  unfold Args
  sl_unfold [k0_part4]
  sl_exec
  icases HF3_dst with ⟨HT3, HV3⟩
  sl_exec
  have e0 : part4_run.sl.gather0 m L d hl = chunk m L d 5 := gather_chunk m L d hin 5 ![1280] rfl _ _ _ _ _ _
  have e1 : part4_run.sl.dma0 m L d f3 = chunk m L d 3 := View.read_writes_whole (Val := Elt F) tK0.view _ (chunk m L d 3)
  rw [e0, e1]
  ihave HD2 := (out_landed (F := F) m L d 512#32 2 rfl (m (oLoc d))) $$ HR2_dst
  rw [wp_ret]; imodintro
  isplitl [HD2]; · iexact HD2
  isplitl [HR2]; · iexact HR2
  isplitl [HS2]; · iexists (tK2.view.writes (Elt F) f2 [⟨Rect.whole S256x128, chunk m L d 2⟩]); iexact HS2
  isplitl [HF3_src]; · iexact HF3_src
  isplitl [HF3]; · iexact HF3
  isplitl [HV3]; · iexact HV3
  isplitl [HS3]; · iexists _; iexact HS3
  iexists _; iexact Howe

theorem part5_run (W : Waits sig (HIx 1)) (w : BitVec 32) (f3 f4 : Buf (Elt F) ((tV).view.loc (VT L d))) :
    (iprop(Transfers.MayWaits (VT L d) (default : HIx 1) O
        ∗ Writing m L d 768#32 tK0 3 3 f3
        ∗ Tok m L d q 0
        ∗ semVal (cell L d 0) 0
        ∗ Win m L d 1536 inb_S3072_S256_1536
        ∗ Flying m L d tK1 1 1024 inb_S3072_S256_1024 4 q f4
        ∗ OutAt (F := F) L d 1024#32 4 (m (oLoc d))
        ∗ semVal (cell L d 4) 0
        ∗ owes (VT L d) O W) : sProp 𝕄)
      ⊢ wp frame (wpE (defs₀ (F := F)) 𝒱₀ (VT L d) none) Set.univ (Args L k0_part5 w) fun _ => iprop(
        OutAt (F := F) L d 768#32 3 (looked m d) ∗
        semVal (cell L d 3) 0 ∗
        (∃ f, Flying m L d tK0 0 1536 inb_S3072_S256_1536 6 q f) ∗
        Tok m L d q 1 ∗
        semVal (cell L d 1) 0 ∗
        Win m L d 1024 inb_S3072_S256_1024 ∗
        OutAt (F := F) L d 1024#32 4 (looked m d) ∗
        (∃ f, Held m L d tK1 4 f) ∗
        semVal (cell L d 4) 0 ∗
        ∃ W', owes (VT L d) O W') := by
  iintro ⟨#Hmw, HR3, HX0, HS0, HW6, HF4, HO4, HS4, Howe⟩
  have hl := tlist_inRange m L d hin
  unfold Args
  sl_unfold [k0_part5]
  sl_exec
  icases HF4_dst with ⟨HT4, HV4⟩
  sl_exec
  have e0 : part5_run.sl.gather0 m L d hl = chunk m L d 6 := gather_chunk m L d hin 6 ![1536] rfl _ _ _ _ _ _
  have e1 : part5_run.sl.dma0 m L d f4 = chunk m L d 4 := View.read_writes_whole (Val := Elt F) tK1.view _ (chunk m L d 4)
  rw [e0, e1]
  ihave HD3 := (out_landed (F := F) m L d 768#32 3 rfl (m (oLoc d))) $$ HR3_dst
  ihave HD4 := (out_landed (F := F) m L d 1024#32 4 rfl (m (oLoc d))) $$ HO4
  rw [wp_ret]; imodintro
  isplitl [HD3]; · iexact HD3
  isplitl [HR3]; · iexact HR3
  isplitl [HS0]; · iexists (tK0.view.writes (Elt F) f3 [⟨Rect.whole S256x128, chunk m L d 3⟩]); iexact HS0
  isplitl [HF4_src]; · iexact HF4_src
  isplitl [HF4]; · iexact HF4
  isplitl [HV4]; · iexact HV4
  isplitl [HD4]; · iexact HD4
  isplitl [HT4]; · iexists _; iexact HT4
  isplitl [HS4]; · iexact HS4
  iexists _; iexact Howe

theorem part6_run (W : Waits sig (HIx 1)) (w : BitVec 32) (f4 f5 : Buf (Elt F) ((tV).view.loc (VT L d))) :
    (iprop(Transfers.MayWaits (VT L d) (default : HIx 1) O
        ∗ Held m L d tK1 4 f4
        ∗ Tok m L d q 1
        ∗ semVal (cell L d 1) 0
        ∗ Win m L d 1792 inb_S3072_S256_1792
        ∗ Flying m L d tK2 2 1280 inb_S3072_S256_1280 5 q f5
        ∗ OutAt (F := F) L d 1280#32 5 (m (oLoc d))
        ∗ semVal (cell L d 5) 0
        ∗ Win m L d 2048 inb_S3072_S256_2048
        ∗ owes (VT L d) O W) : sProp 𝕄)
      ⊢ wp frame (wpE (defs₀ (F := F)) 𝒱₀ (VT L d) none) Set.univ (Args L k0_part6 w) fun _ => iprop(
        (∃ f, Flying m L d tK1 1 1792 inb_S3072_S256_1792 7 q f) ∗
        Win m L d 1280 inb_S3072_S256_1280 ∗
        OutAt (F := F) L d 1280#32 5 (looked m d) ∗
        semVal (cell L d 5) 0 ∗
        (∃ f, Flying m L d tK2 2 2048 inb_S3072_S256_2048 8 q f) ∗
        ∃ W', owes (VT L d) O W') := by
  iintro ⟨#Hmw, HT4, HX1, HS1, HW7, HF5, HO5, HS5, HW8, Howe⟩
  have hl := tlist_inRange m L d hin
  unfold Args
  sl_unfold [k0_part6]
  sl_exec
  icases HF5_dst with ⟨HT5, HV5⟩
  sl_exec
  have e0 : part6_run.sl.gather0 m L d hl = chunk m L d 7 := gather_chunk m L d hin 7 ![1792] rfl _ _ _ _ _ _
  have e1 : part6_run.sl.dma0 m L d f5 = chunk m L d 5 := View.read_writes_whole (Val := Elt F) tK2.view _ (chunk m L d 5)
  have e2 : part6_run.sl.gather1 m L d hl = chunk m L d 8 := gather_chunk m L d hin 8 ![2048] rfl _ _ _ _ _ _
  rw [e0, e1, e2]
  ihave HD5 := (out_landed (F := F) m L d 1280#32 5 rfl (m (oLoc d))) $$ HO5
  rw [wp_ret]; imodintro
  isplitl [HS1]; · iexists (tK1.view.writes (Elt F) f4 [⟨Rect.whole S256x128, chunk m L d 4⟩]); iexact HS1
  isplitl [HV5]; · iexact HV5
  isplitl [HD5]; · iexact HD5
  isplitl [HS5]; · iexact HS5
  isplitl [HF5]; · iexists (tK2.view.writes (Elt F) f5 [⟨Rect.whole S256x128, chunk m L d 5⟩]); iexact HF5
  iexists _; iexact Howe

end Cert.Proof.Lookup
-- ==== Proof.PartsB.lean ====
/-
  One task's run, part by part, the value carried: between two parts one slab of the stage holds a gathered chunk and
  the two next chunks' gathers are in flight; a part writes the held chunk's rows of the result, starts the gather of the
  chunk three on into the slab just written from, and waits for the next chunk.
-/
module

public import proofs.«01_k».proof.Proof.PartsA

@[expose] public section

noncomputable section

namespace Cert.Proof.Lookup

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
variable (m : (ℓ : Loc nD τ sig) → Buf (Elt F) ℓ)
variable (L : grid0.Coords) (d : Dev nD)
local notation "𝕄" => MT nD τ sig (HIx 1) (Elt F) ℕ UU ℕ

variable (hin : InRange m) (O : CellTallies nD τ sig (HIx 1)) (q : PosShare TreeShare)
include hin

theorem part7_run (W : Waits sig (HIx 1)) (w : BitVec 32) (f6 : Buf (Elt F) ((tV).view.loc (VT L d))) :
    (iprop(Transfers.MayWaits (VT L d) (default : HIx 1) O
        ∗ Flying m L d tK0 0 1536 inb_S3072_S256_1536 6 q f6
        ∗ OutAt (F := F) L d 1536#32 6 (m (oLoc d))
        ∗ semVal (cell L d 3) 0
        ∗ Win m L d 2304 inb_S3072_S256_2304
        ∗ owes (VT L d) O W) : sProp 𝕄)
      ⊢ wp frame (wpE (defs₀ (F := F)) 𝒱₀ (VT L d) none) Set.univ (Args L k0_part7 w) fun _ => iprop(
        Win m L d 1536 inb_S3072_S256_1536 ∗
        OutAt (F := F) L d 1536#32 6 (looked m d) ∗
        semVal (cell L d 3) 0 ∗
        (∃ f, Flying m L d tK0 0 2304 inb_S3072_S256_2304 9 q f) ∗
        ∃ W', owes (VT L d) O W') := by
  iintro ⟨#Hmw, HF6, HO6, HS3, HW9, Howe⟩
  have hl := tlist_inRange m L d hin
  unfold Args
  sl_unfold [k0_part7]
  sl_exec
  icases HF6_dst with ⟨HT6, HV6⟩
  sl_exec
  have e0 : part7_run.sl.dma0 m L d f6 = chunk m L d 6 := View.read_writes_whole (Val := Elt F) tK0.view _ (chunk m L d 6)
  have e1 : part7_run.sl.gather1 m L d hl = chunk m L d 9 := gather_chunk m L d hin 9 ![2304] rfl _ _ _ _ _ _
  rw [e0, e1]
  ihave HD6 := (out_landed (F := F) m L d 1536#32 6 rfl (m (oLoc d))) $$ HO6
  rw [wp_ret]; imodintro
  isplitl [HV6]; · iexact HV6
  isplitl [HD6]; · iexact HD6
  isplitl [HS3]; · iexact HS3
  isplitl [HF6]; · iexists (tK0.view.writes (Elt F) f6 [⟨Rect.whole S256x128, chunk m L d 6⟩]); iexact HF6
  iexists _; iexact Howe

theorem part8_run (W : Waits sig (HIx 1)) (w : BitVec 32) (f7 f8 : Buf (Elt F) ((tV).view.loc (VT L d))) :
    (iprop(Transfers.MayWaits (VT L d) (default : HIx 1) O
        ∗ Flying m L d tK1 1 1792 inb_S3072_S256_1792 7 q f7
        ∗ OutAt (F := F) L d 1792#32 7 (m (oLoc d))
        ∗ semVal (cell L d 4) 0
        ∗ Win m L d 2560 inb_S3072_S256_2560
        ∗ Flying m L d tK2 2 2048 inb_S3072_S256_2048 8 q f8
        ∗ owes (VT L d) O W) : sProp 𝕄)
      ⊢ wp frame (wpE (defs₀ (F := F)) 𝒱₀ (VT L d) none) Set.univ (Args L k0_part8 w) fun _ => iprop(
        Win m L d 1792 inb_S3072_S256_1792 ∗
        OutAt (F := F) L d 1792#32 7 (looked m d) ∗
        semVal (cell L d 4) 0 ∗
        (∃ f, Flying m L d tK1 1 2560 inb_S3072_S256_2560 10 q f) ∗
        (∃ f, Held m L d tK2 8 f) ∗
        Tok m L d q 2 ∗
        semVal (cell L d 2) 0 ∗
        Win m L d 2048 inb_S3072_S256_2048 ∗
        ∃ W', owes (VT L d) O W') := by
  iintro ⟨#Hmw, HF7, HO7, HS4, HW10, HF8, Howe⟩
  have hl := tlist_inRange m L d hin
  unfold Args
  sl_unfold [k0_part8]
  sl_exec
  icases HF7_dst with ⟨HT7, HV7⟩
  sl_exec
  icases HF8_dst with ⟨HT8, HV8⟩
  sl_exec
  have e0 : part8_run.sl.dma0 m L d f7 = chunk m L d 7 := View.read_writes_whole (Val := Elt F) tK1.view _ (chunk m L d 7)
  have e1 : part8_run.sl.gather1 m L d hl = chunk m L d 10 := gather_chunk m L d hin 10 ![2560] rfl _ _ _ _ _ _
  rw [e0, e1]
  ihave HD7 := (out_landed (F := F) m L d 1792#32 7 rfl (m (oLoc d))) $$ HO7
  rw [wp_ret]; imodintro
  isplitl [HV7]; · iexact HV7
  isplitl [HD7]; · iexact HD7
  isplitl [HS4]; · iexact HS4
  isplitl [HF7]; · iexists (tK1.view.writes (Elt F) f7 [⟨Rect.whole S256x128, chunk m L d 7⟩]); iexact HF7
  isplitl [HT8]; · iexists _; iexact HT8
  isplitl [HF8_src]; · iexact HF8_src
  isplitl [HF8]; · iexact HF8
  isplitl [HV8]; · iexact HV8
  iexists _; iexact Howe

theorem part9_run (W : Waits sig (HIx 1)) (w : BitVec 32) (f8 f9 : Buf (Elt F) ((tV).view.loc (VT L d))) :
    (iprop(Transfers.MayWaits (VT L d) (default : HIx 1) O
        ∗ OutAt (F := F) L d 2048#32 8 (m (oLoc d))
        ∗ Held m L d tK2 8 f8
        ∗ semVal (cell L d 5) 0
        ∗ Tok m L d q 2
        ∗ semVal (cell L d 2) 0
        ∗ Win m L d 2816 inb_S3072_S256_2816
        ∗ Flying m L d tK0 0 2304 inb_S3072_S256_2304 9 q f9
        ∗ owes (VT L d) O W) : sProp 𝕄)
      ⊢ wp frame (wpE (defs₀ (F := F)) 𝒱₀ (VT L d) none) Set.univ (Args L k0_part9 w) fun _ => iprop(
        OutAt (F := F) L d 2048#32 8 (looked m d) ∗
        semVal (cell L d 5) 0 ∗
        (∃ f, Flying m L d tK2 2 2816 inb_S3072_S256_2816 11 q f) ∗
        (∃ f, Held m L d tK0 9 f) ∗
        Tok m L d q 0 ∗
        semVal (cell L d 0) 0 ∗
        Win m L d 2304 inb_S3072_S256_2304 ∗
        ∃ W', owes (VT L d) O W') := by
  iintro ⟨#Hmw, HO8, HT8, HS5, HX2, HS2, HW11, HF9, Howe⟩
  have hl := tlist_inRange m L d hin
  unfold Args
  sl_unfold [k0_part9]
  sl_exec
  icases HF9_dst with ⟨HT9, HV9⟩
  sl_exec
  have e0 : part9_run.sl.dma0 m L d f8 = chunk m L d 8 := View.read_writes_whole (Val := Elt F) tK2.view _ (chunk m L d 8)
  have e1 : part9_run.sl.gather1 m L d hl = chunk m L d 11 := gather_chunk m L d hin 11 ![2816] rfl _ _ _ _ _ _
  rw [e0, e1]
  ihave HD8 := (out_landed (F := F) m L d 2048#32 8 rfl (m (oLoc d))) $$ HO8
  rw [wp_ret]; imodintro
  isplitl [HD8]; · iexact HD8
  isplitl [HS5]; · iexact HS5
  isplitl [HS2]; · iexists (tK2.view.writes (Elt F) f8 [⟨Rect.whole S256x128, chunk m L d 8⟩]); iexact HS2
  isplitl [HT9]; · iexists _; iexact HT9
  isplitl [HF9_src]; · iexact HF9_src
  isplitl [HF9]; · iexact HF9
  isplitl [HV9]; · iexact HV9
  iexists _; iexact Howe

theorem part10_run (W : Waits sig (HIx 1)) (w : BitVec 32) (f9 f10 f11 : Buf (Elt F) ((tV).view.loc (VT L d))) :
    (iprop(Transfers.MayWaits (VT L d) (default : HIx 1) O
        ∗ OutAt (F := F) L d 2304#32 9 (m (oLoc d))
        ∗ Held m L d tK0 9 f9
        ∗ semVal (cell L d 3) 0
        ∗ Flying m L d tK1 1 2560 inb_S3072_S256_2560 10 q f10
        ∗ OutAt (F := F) L d 2560#32 10 (m (oLoc d))
        ∗ semVal (cell L d 4) 0
        ∗ Flying m L d tK2 2 2816 inb_S3072_S256_2816 11 q f11
        ∗ OutAt (F := F) L d 2816#32 11 (m (oLoc d))
        ∗ semVal (cell L d 5) 0
        ∗ owes (VT L d) O W) : sProp 𝕄)
      ⊢ wp frame (wpE (defs₀ (F := F)) 𝒱₀ (VT L d) none) Set.univ (Args L k0_part10 w) fun _ => iprop(
        (∃ f, Writing m L d 2304#32 tK0 3 9 f) ∗
        Tok m L d q 1 ∗
        semVal (cell L d 1) 0 ∗
        Win m L d 2560 inb_S3072_S256_2560 ∗
        (∃ f, Writing m L d 2560#32 tK1 4 10 f) ∗
        Tok m L d q 2 ∗
        semVal (cell L d 2) 0 ∗
        Win m L d 2816 inb_S3072_S256_2816 ∗
        (∃ f, Writing m L d 2816#32 tK2 5 11 f) ∗
        ∃ W', owes (VT L d) O W') := by
  iintro ⟨#Hmw, HO9, HT9, HS3, HF10, HO10, HS4, HF11, HO11, HS5, Howe⟩
  unfold Args
  sl_unfold [k0_part10]
  sl_exec
  icases HF10_dst with ⟨HT10, HV10⟩
  sl_exec
  icases HF11_dst with ⟨HT11, HV11⟩
  sl_exec
  have e0 : part10_run.sl.dma0 m L d f9 = chunk m L d 9 := View.read_writes_whole (Val := Elt F) tK0.view _ (chunk m L d 9)
  have e1 : part10_run.sl.dma0_1 m L d f10 = chunk m L d 10 := View.read_writes_whole (Val := Elt F) tK1.view _ (chunk m L d 10)
  have e2 : part10_run.sl.dma0_2 m L d f11 = chunk m L d 11 := View.read_writes_whole (Val := Elt F) tK2.view _ (chunk m L d 11)
  rw [e0, e1, e2]
  rw [wp_ret]; imodintro
  isplitl [HS3]; · iexists _; iexact HS3
  isplitl [HF10_src]; · iexact HF10_src
  isplitl [HF10]; · iexact HF10
  isplitl [HV10]; · iexact HV10
  isplitl [HS4]; · iexists _; iexact HS4
  isplitl [HF11_src]; · iexact HF11_src
  isplitl [HF11]; · iexact HF11
  isplitl [HV11]; · iexact HV11
  isplitl [HS5]; · iexists _; iexact HS5
  iexists _; iexact Howe

end Cert.Proof.Lookup
-- ==== Proof.Task.lean ====
/-
  One task's whole run: the list of row numbers copied in, its twelve windows and the three slabs apart, the parts one after the other, and
  everything put together again — every chunk's rows of the result holding the table's rows the list names.
-/
module

public import proofs.«01_k».proof.Proof.PartsB

@[expose] public section

noncomputable section

namespace Cert.Proof.Lookup

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
variable (m : (ℓ : Loc nD τ sig) → Buf (Elt F) ℓ)
variable (L : grid0.Coords) (d : Dev nD)
local notation "𝕄" => MT nD τ sig (HIx 1) (Elt F) ℕ UU ℕ

/-! ## The list by windows, the stage by slabs -/

/-- Window `c` of the list. -/
abbrev lwin (c : Fin 12) : Rect S3072 := Rect.unit (s := S3072) ![256 * c.val] S256.size (by
  intro a; have := c.isLt; fin_cases a; show 256 * c.val + 256 ≤ 3072; omega)

theorem lwin_disjoint : ∀ c ∈ (Finset.univ : Finset (Fin 12)), ∀ c' ∈ (Finset.univ : Finset (Fin 12)), c ≠ c' → Disjoint (lwin c).set (lwin c').set := by
  intro c _ c' _ h
  rw [Finset.disjoint_left]
  intro x hx hx'
  have h1 := Rect.mem_set_unit.mp hx 0
  have h2 := Rect.mem_set_unit.mp hx' 0
  have e1 : 256 * c.val ≤ (x 0).val ∧ (x 0).val < 256 * c.val + 256 := h1
  have e2 : 256 * c'.val ≤ (x 0).val ∧ (x 0).val < 256 * c'.val + 256 := h2
  exact h (Fin.ext (by omega))

theorem lwin_cover : (Finset.univ : Finset (Fin 12)).biUnion (fun c => (lwin c).set) = Finset.univ := by
  refine Finset.eq_univ_of_forall fun x => Finset.mem_biUnion.mpr ?_
  have h0 : (x 0).val < 3072 := (x 0).isLt
  refine ⟨⟨(x 0).val / 256, by omega⟩, Finset.mem_univ _, ?_⟩
  rw [Rect.mem_set_unit]
  intro a
  fin_cases a
  show 256 * ((x 0).val / 256) ≤ (x 0).val ∧ (x 0).val < 256 * ((x 0).val / 256) + 256
  omega

/-- The list whole is its twelve windows. -/
theorem list_windows :
    ((lV).view.loc (VT L d) ↦[(lV).view.set]{fullShare} tlist m L d : sProp 𝕄)
      = iprop(Win m L d 0 inb_S3072_S256_0 ∗ Win m L d 256 inb_S3072_S256_256 ∗ Win m L d 512 inb_S3072_S256_512 ∗ Win m L d 768 inb_S3072_S256_768 ∗ Win m L d 1024 inb_S3072_S256_1024 ∗ Win m L d 1280 inb_S3072_S256_1280 ∗ Win m L d 1536 inb_S3072_S256_1536 ∗ Win m L d 1792 inb_S3072_S256_1792 ∗ Win m L d 2048 inb_S3072_S256_2048 ∗ Win m L d 2304 inb_S3072_S256_2304 ∗ Win m L d 2560 inb_S3072_S256_2560 ∗ Win m L d 2816 inb_S3072_S256_2816) := by
  have e : ((lV).view.loc (VT L d) ↦[(lV).view.set]{fullShare} tlist m L d : sProp 𝕄)
      = bigSep Finset.univ fun c : Fin 12 => (lV).view.loc (VT L d) ↦[((lV).view.slice (lwin c)).set]{fullShare} tlist m L d := by
    rw [View.set_whole, ← lwin_cover, pointsTo_biUnion Finset.univ (ℓ := (lV).view.loc (VT L d)) (fun c => (lwin c).set) lwin_disjoint]
    exact bigSep_congr fun c _ => by rw [View.set_slice_whole]
  rw [e, bigSep_univ_eq_bigSepL [0, 1, 2, 3, 4, 5, 6, 7, 8, 9, 10, 11] (by decide) (by decide)]
  rfl

/-- Slab `k` of the stage. -/
abbrev slab (k : Fin 3) : Rect S3x256x128 := Rect.unit (s := S3x256x128) ![k.val, 0, 0] S1x256x128.size (by
  intro a; have := k.isLt; fin_cases a
  · show k.val + 1 ≤ 3; omega
  · show 0 + 256 ≤ 256; omega
  · show 0 + 128 ≤ 128; omega)

theorem slab_disjoint : ∀ c ∈ (Finset.univ : Finset (Fin 3)), ∀ c' ∈ (Finset.univ : Finset (Fin 3)), c ≠ c' → Disjoint (slab c).set (slab c').set := by
  intro c _ c' _ h
  rw [Finset.disjoint_left]
  intro x hx hx'
  have e1 : c.val ≤ (x 0).val ∧ (x 0).val < c.val + 1 := Rect.mem_set_unit.mp hx 0
  have e2 : c'.val ≤ (x 0).val ∧ (x 0).val < c'.val + 1 := Rect.mem_set_unit.mp hx' 0
  exact h (Fin.ext (by omega))

theorem slab_cover : (Finset.univ : Finset (Fin 3)).biUnion (fun c => (slab c).set) = Finset.univ := by
  refine Finset.eq_univ_of_forall fun x => Finset.mem_biUnion.mpr ?_
  have h0 : (x 0).val < 3 := (x 0).isLt
  have h1 : (x 1).val < 256 := (x 1).isLt
  have h2 : (x 2).val < 128 := (x 2).isLt
  refine ⟨⟨(x 0).val, h0⟩, Finset.mem_univ _, ?_⟩
  rw [Rect.mem_set_unit]
  intro a
  fin_cases a
  · show (x 0).val ≤ (x 0).val ∧ (x 0).val < (x 0).val + 1; omega
  · show 0 ≤ (x 1).val ∧ (x 1).val < 0 + 256; omega
  · show 0 ≤ (x 2).val ∧ (x 2).val < 0 + 128; omega

theorem set_tK0 : (tK0).view.set = (slab 0).set := (View.set_reshape _ _).trans (View.set_slice_whole _ _)
theorem set_tK1 : (tK1).view.set = (slab 1).set := (View.set_reshape _ _).trans (View.set_slice_whole _ _)
theorem set_tK2 : (tK2).view.set = (slab 2).set := (View.set_reshape _ _).trans (View.set_slice_whole _ _)

/-- The stage whole is its three slabs, at the same contents. -/
theorem stage_split (t : Buf (Elt F) ((tV).view.loc (VT L d))) :
    ((VT L d).loc cc0_scratch1 ↦{fullShare} t : sProp 𝕄)
      ⊢ iprop(((tK0).view.loc (VT L d) ↦[(tK0).view.set]{fullShare} t) ∗ ((tK1).view.loc (VT L d) ↦[(tK1).view.set]{fullShare} t)
          ∗ ((tK2).view.loc (VT L d) ↦[(tK2).view.set]{fullShare} t)) := by
  rw [set_tK0, set_tK1, set_tK2]
  refine Entails.of_eq ?_
  rw [← slab_cover, pointsTo_biUnion Finset.univ (ℓ := (tV).view.loc (VT L d)) (fun c => (slab c).set) slab_disjoint]
  exact bigSep_univ_eq_bigSepL [0, 1, 2] (by decide) (by decide) _

/-- The three slabs, each at its own contents, are the stage whole at some contents. -/
theorem stage_join (t0 t1 t2 : Buf (Elt F) ((tV).view.loc (VT L d))) :
    (iprop(((tK0).view.loc (VT L d) ↦[(tK0).view.set]{fullShare} t0) ∗ ((tK1).view.loc (VT L d) ↦[(tK1).view.set]{fullShare} t1)
          ∗ ((tK2).view.loc (VT L d) ↦[(tK2).view.set]{fullShare} t2)) : sProp 𝕄)
      ⊢ iprop(∃ t, (VT L d).loc cc0_scratch1 ↦{fullShare} t) := by
  rw [set_tK0, set_tK1, set_tK2]
  have e : (iprop(((tV).view.loc (VT L d) ↦[(slab 0).set]{fullShare} t0) ∗ ((tV).view.loc (VT L d) ↦[(slab 1).set]{fullShare} t1)
          ∗ ((tV).view.loc (VT L d) ↦[(slab 2).set]{fullShare} t2)) : sProp 𝕄)
      = bigSep Finset.univ fun c : Fin 3 => (tV).view.loc (VT L d) ↦[(slab c).set]{fullShare} (![t0, t1, t2] : Fin 3 → Buf (Elt F) ((tV).view.loc (VT L d))) c :=
    (bigSep_univ_eq_bigSepL [0, 1, 2] (by decide) (by decide) (fun c : Fin 3 => ((tV).view.loc (VT L d) ↦[(slab c).set]{fullShare} (![t0, t1, t2] : Fin 3 → Buf (Elt F) ((tV).view.loc (VT L d))) c : sProp 𝕄))).symm
  refine (Entails.of_eq e).trans ?_
  iintro H
  ihave H' := (pointsTo_biUnion_join (ℓ := (tV).view.loc (VT L d)) (q := fullShare) (Val := Elt F) Finset.univ (fun c => (slab c).set)
    (![t0, t1, t2] : Fin 3 → Buf (Elt F) ((tV).view.loc (VT L d))) t0 slab_disjoint) $$ H
  icases H' with ⟨%g, -, Hg⟩
  rw [slab_cover]
  iexists g; iexact Hg

/-! ## The first part -/

variable (hin : InRange m) (O : CellTallies nD τ sig (HIx 1)) (q : PosShare TreeShare)
include hin

theorem part1_run (W : Waits sig (HIx 1)) (g0 : Buf (Elt F) ((lV).view.loc (VT L d))) (t0 t1 t2 : Buf (Elt F) ((tV).view.loc (VT L d))) :
    (iprop(Transfers.MayWaits (VT L d) (default : HIx 1) O ∗ ((iK L).view.loc (VT L d) ↦[(iK L).view.set]{fullShare} flat m d)
        ∗ Tok m L d q 0 ∗ Tok m L d q 1 ∗ Tok m L d q 2
        ∗ ((lV).view.loc (VT L d) ↦[(lV).view.set]{fullShare} g0)
        ∗ ((tK0).view.loc (VT L d) ↦[(tK0).view.set]{fullShare} t0) ∗ ((tK1).view.loc (VT L d) ↦[(tK1).view.set]{fullShare} t1)
        ∗ ((tK2).view.loc (VT L d) ↦[(tK2).view.set]{fullShare} t2)
        ∗ semVal (cell L d 0) 0 ∗ semVal (cell L d 1) 0 ∗ semVal (cell L d 2) 0 ∗ semVal (cell L d 6) 0
        ∗ owes (VT L d) O W) : sProp 𝕄)
      ⊢ wp frame (wpE (defs₀ (F := F)) 𝒱₀ (VT L d) none) Set.univ
          (k0_part1 L xV (Memref.isWhole_whole _) iV (Memref.isWhole_whole _) oV (Memref.isWhole_whole _) lV (Memref.isWhole_whole _) tV (Memref.isWhole_whole _) cc0_scratch2 cc0_scratch3 cc0_scratch4 cc0_scratch5 cc0_scratch6 cc0_scratch7 cc0_scoped0) fun _ => iprop(
        ((iK L).view.loc (VT L d) ↦[(iK L).view.set]{fullShare} flat m d) ∗
        (∃ f, Held m L d tK0 0 f) ∗
        Tok m L d q 0 ∗
        semVal (cell L d 0) 0 ∗
        Win m L d 0 inb_S3072_S256_0 ∗
        (∃ f, Flying m L d tK1 1 256 inb_S3072_S256_256 1 q f) ∗
        (∃ f, Flying m L d tK2 2 512 inb_S3072_S256_512 2 q f) ∗
        Win m L d 768 inb_S3072_S256_768 ∗
        Win m L d 1024 inb_S3072_S256_1024 ∗
        Win m L d 1280 inb_S3072_S256_1280 ∗
        Win m L d 1536 inb_S3072_S256_1536 ∗
        Win m L d 1792 inb_S3072_S256_1792 ∗
        Win m L d 2048 inb_S3072_S256_2048 ∗
        Win m L d 2304 inb_S3072_S256_2304 ∗
        Win m L d 2560 inb_S3072_S256_2560 ∗
        Win m L d 2816 inb_S3072_S256_2816 ∗
        semVal (cell L d 6) 0 ∗
        ∃ W', owes (VT L d) O W') := by
  iintro ⟨#Hmw, HI, HX0, HX1, HX2, HG, HE0, HE1, HE2, HS0, HS1, HS2, HS6, Howe⟩
  have hl := tlist_inRange m L d hin
  sl_unfold [k0_part1]
  sl_exec
  ihave HG := (list_landed (F := F) m L d (part1_run.sl.dma0 m L d) rfl _) $$ HG
  ihave HG := (Entails.of_eq (list_windows (F := F) m L d)) $$ HG
  icases HG with ⟨HW0, HW1, HW2, HW3, HW4, HW5, HW6, HW7, HW8, HW9, HW10, HW11⟩
  sl_exec
  have e0 : part1_run.sl.gather0 m L d hl = chunk m L d 0 := gather_chunk m L d hin 0 ![0] rfl _ _ _ _ _ _
  have e1 : part1_run.sl.gather1 m L d hl = chunk m L d 1 := gather_chunk m L d hin 1 ![256] rfl _ _ _ _ _ _
  have e2 : part1_run.sl.gather2 m L d hl = chunk m L d 2 := gather_chunk m L d hin 2 ![512] rfl _ _ _ _ _ _
  rw [e0, e1, e2, wp_ret]; imodintro
  isplitl [HI]; · iexact HI
  isplitl [HE0]; · iexists t0; iexact HE0
  isplitl [HX0]; · iexact HX0
  isplitl [HS0]; · iexact HS0
  isplitl [HW0]; · iexact HW0
  isplitl [HS1]; · iexists t1; iexact HS1
  isplitl [HS2]; · iexists t2; iexact HS2
  isplitl [HW3]; · iexact HW3
  isplitl [HW4]; · iexact HW4
  isplitl [HW5]; · iexact HW5
  isplitl [HW6]; · iexact HW6
  isplitl [HW7]; · iexact HW7
  isplitl [HW8]; · iexact HW8
  isplitl [HW9]; · iexact HW9
  isplitl [HW10]; · iexact HW10
  isplitl [HW11]; · iexact HW11
  isplitl [HS6]; · iexact HS6
  iexists _; iexact Howe

/-! ## The whole run -/

theorem tile_run (W : Waits sig (HIx 1)) (g0 : Buf (Elt F) ((lV).view.loc (VT L d))) (t : Buf (Elt F) ((VT L d).loc cc0_scratch1)) :
    (iprop(Transfers.MayWaits (VT L d) (default : HIx 1) O ∗ ((iK L).view.loc (VT L d) ↦[(iK L).view.set]{fullShare} flat m d)
        ∗ Tok m L d q 0 ∗ Tok m L d q 1 ∗ Tok m L d q 2
        ∗ (OutAt (F := F) L d 0#32 0 (m (oLoc d)) ∗ OutAt (F := F) L d 256#32 1 (m (oLoc d)) ∗ OutAt (F := F) L d 512#32 2 (m (oLoc d)) ∗ OutAt (F := F) L d 768#32 3 (m (oLoc d)) ∗ OutAt (F := F) L d 1024#32 4 (m (oLoc d)) ∗ OutAt (F := F) L d 1280#32 5 (m (oLoc d)) ∗ OutAt (F := F) L d 1536#32 6 (m (oLoc d)) ∗ OutAt (F := F) L d 1792#32 7 (m (oLoc d)) ∗ OutAt (F := F) L d 2048#32 8 (m (oLoc d)) ∗ OutAt (F := F) L d 2304#32 9 (m (oLoc d)) ∗ OutAt (F := F) L d 2560#32 10 (m (oLoc d)) ∗ OutAt (F := F) L d 2816#32 11 (m (oLoc d)))
        ∗ ((lV).view.loc (VT L d) ↦[(lV).view.set]{fullShare} g0) ∗ ((VT L d).loc cc0_scratch1 ↦{fullShare} t)
        ∗ (semVal (cell L d 0) 0 ∗ semVal (cell L d 1) 0 ∗ semVal (cell L d 2) 0 ∗ semVal (cell L d 3) 0 ∗ semVal (cell L d 4) 0 ∗ semVal (cell L d 5) 0 ∗ semVal (cell L d 6) 0)
        ∗ owes (VT L d) O W) : sProp 𝕄)
      ⊢ wp frame (wpE (defs₀ (F := F)) 𝒱₀ (VT L d) none) Set.univ
          (cc0_k L xV (Memref.isWhole_whole _) iV (Memref.isWhole_whole _) oV (Memref.isWhole_whole _) lV (Memref.isWhole_whole _) tV (Memref.isWhole_whole _) cc0_scratch2 cc0_scratch3 cc0_scratch4 cc0_scratch5 cc0_scratch6 cc0_scratch7 cc0_scoped0) fun _ => iprop(
        ((iK L).view.loc (VT L d) ↦[(iK L).view.set]{fullShare} flat m d)
        ∗ Tok m L d q 0 ∗ Tok m L d q 1 ∗ Tok m L d q 2
        ∗ (OutAt (F := F) L d 0#32 0 (looked m d) ∗ OutAt (F := F) L d 256#32 1 (looked m d) ∗ OutAt (F := F) L d 512#32 2 (looked m d) ∗ OutAt (F := F) L d 768#32 3 (looked m d) ∗ OutAt (F := F) L d 1024#32 4 (looked m d) ∗ OutAt (F := F) L d 1280#32 5 (looked m d) ∗ OutAt (F := F) L d 1536#32 6 (looked m d) ∗ OutAt (F := F) L d 1792#32 7 (looked m d) ∗ OutAt (F := F) L d 2048#32 8 (looked m d) ∗ OutAt (F := F) L d 2304#32 9 (looked m d) ∗ OutAt (F := F) L d 2560#32 10 (looked m d) ∗ OutAt (F := F) L d 2816#32 11 (looked m d))
        ∗ ((lV).view.loc (VT L d) ↦[(lV).view.set]{fullShare} tlist m L d) ∗ (∃ t, (VT L d).loc cc0_scratch1 ↦{fullShare} t)
        ∗ (semVal (cell L d 0) 0 ∗ semVal (cell L d 1) 0 ∗ semVal (cell L d 2) 0 ∗ semVal (cell L d 3) 0 ∗ semVal (cell L d 4) 0 ∗ semVal (cell L d 5) 0 ∗ semVal (cell L d 6) 0)
        ∗ ∃ W', owes (VT L d) O W') := by
  iintro ⟨#Hmw, HI, HX0, HX1, HX2, ⟨HO0, HO1, HO2, HO3, HO4, HO5, HO6, HO7, HO8, HO9, HO10, HO11⟩, HG, HT, ⟨HS0, HS1, HS2, HS3, HS4, HS5, HS6⟩, Howe⟩
  ihave HT := (stage_split (F := F) L d t) $$ HT
  icases HT with ⟨HE0, HE1, HE2⟩
  unfold cc0_k
  rw [wp_bind]
  iapply (wp_wand_r Idealize.ShloMosaic.frame (wpE (defs₀ (F := F)) 𝒱₀ (VT L d) none) Set.univ)
  isplitl [HI HX0 HX1 HX2 HG HE0 HE1 HE2 HS0 HS1 HS2 HS6 Howe]
  · iapply (part1_run m L d hin O q W g0 t t t)
    isplitr; · iexact Hmw
    isplitl [HI]; · iexact HI
    isplitl [HX0]; · iexact HX0
    isplitl [HX1]; · iexact HX1
    isplitl [HX2]; · iexact HX2
    isplitl [HG]; · iexact HG
    isplitl [HE0]; · iexact HE0
    isplitl [HE1]; · iexact HE1
    isplitl [HE2]; · iexact HE2
    isplitl [HS0]; · iexact HS0
    isplitl [HS1]; · iexact HS1
    isplitl [HS2]; · iexact HS2
    isplitl [HS6]; · iexact HS6
    iexact Howe
  iintro %v ⟨HI, ⟨%f0, HT0⟩, HX0, HS0, HV0, ⟨%f1, HF1⟩, ⟨%f2, HF2⟩, HW3, HW4, HW5, HW6, HW7, HW8, HW9, HW10, HW11, HS6, ⟨%W, Howe⟩⟩
  rw [wp_bind]
  iapply (wp_wand_r Idealize.ShloMosaic.frame (wpE (defs₀ (F := F)) 𝒱₀ (VT L d) none) Set.univ)
  isplitl [HO0 HT0 HS3 HX0 HS0 HW3 HF1 Howe]
  · iapply (part2_run m L d hin O q W _ f0 f1)
    isplitr; · iexact Hmw
    isplitl [HO0]; · iexact HO0
    isplitl [HT0]; · iexact HT0
    isplitl [HS3]; · iexact HS3
    isplitl [HX0]; · iexact HX0
    isplitl [HS0]; · iexact HS0
    isplitl [HW3]; · iexact HW3
    isplitl [HF1]; · iexact HF1
    iexact Howe
  iintro %v ⟨HD0, HS3, ⟨%f3, HF3⟩, ⟨%f1, HT1⟩, HX1, HS1, HV1, ⟨%W, Howe⟩⟩
  rw [wp_bind]
  iapply (wp_wand_r Idealize.ShloMosaic.frame (wpE (defs₀ (F := F)) 𝒱₀ (VT L d) none) Set.univ)
  isplitl [HO1 HT1 HS4 HX1 HS1 HW4 HF2 HO2 HS5 Howe]
  · iapply (part3_run m L d hin O q W _ f1 f2)
    isplitr; · iexact Hmw
    isplitl [HO1]; · iexact HO1
    isplitl [HT1]; · iexact HT1
    isplitl [HS4]; · iexact HS4
    isplitl [HX1]; · iexact HX1
    isplitl [HS1]; · iexact HS1
    isplitl [HW4]; · iexact HW4
    isplitl [HF2]; · iexact HF2
    isplitl [HO2]; · iexact HO2
    isplitl [HS5]; · iexact HS5
    iexact Howe
  iintro %v ⟨HD1, HS4, ⟨%f4, HF4⟩, HX2, HS2, HV2, ⟨%f2, HR2⟩, ⟨%W, Howe⟩⟩
  rw [wp_bind]
  iapply (wp_wand_r Idealize.ShloMosaic.frame (wpE (defs₀ (F := F)) 𝒱₀ (VT L d) none) Set.univ)
  isplitl [HR2 HX2 HS2 HW5 HF3 HO3 HS3 Howe]
  · iapply (part4_run m L d hin O q W _ f2 f3)
    isplitr; · iexact Hmw
    isplitl [HR2]; · iexact HR2
    isplitl [HX2]; · iexact HX2
    isplitl [HS2]; · iexact HS2
    isplitl [HW5]; · iexact HW5
    isplitl [HF3]; · iexact HF3
    isplitl [HO3]; · iexact HO3
    isplitl [HS3]; · iexact HS3
    iexact Howe
  iintro %v ⟨HD2, HS5, ⟨%f5, HF5⟩, HX0, HS0, HV3, ⟨%f3, HR3⟩, ⟨%W, Howe⟩⟩
  rw [wp_bind]
  iapply (wp_wand_r Idealize.ShloMosaic.frame (wpE (defs₀ (F := F)) 𝒱₀ (VT L d) none) Set.univ)
  isplitl [HR3 HX0 HS0 HW6 HF4 HO4 HS4 Howe]
  · iapply (part5_run m L d hin O q W _ f3 f4)
    isplitr; · iexact Hmw
    isplitl [HR3]; · iexact HR3
    isplitl [HX0]; · iexact HX0
    isplitl [HS0]; · iexact HS0
    isplitl [HW6]; · iexact HW6
    isplitl [HF4]; · iexact HF4
    isplitl [HO4]; · iexact HO4
    isplitl [HS4]; · iexact HS4
    iexact Howe
  iintro %v ⟨HD3, HS3, ⟨%f6, HF6⟩, HX1, HS1, HV4, HD4, ⟨%f4, HT4⟩, HS4, ⟨%W, Howe⟩⟩
  rw [wp_bind]
  iapply (wp_wand_r Idealize.ShloMosaic.frame (wpE (defs₀ (F := F)) 𝒱₀ (VT L d) none) Set.univ)
  isplitl [HT4 HX1 HS1 HW7 HF5 HO5 HS5 HW8 Howe]
  · iapply (part6_run m L d hin O q W _ f4 f5)
    isplitr; · iexact Hmw
    isplitl [HT4]; · iexact HT4
    isplitl [HX1]; · iexact HX1
    isplitl [HS1]; · iexact HS1
    isplitl [HW7]; · iexact HW7
    isplitl [HF5]; · iexact HF5
    isplitl [HO5]; · iexact HO5
    isplitl [HS5]; · iexact HS5
    isplitl [HW8]; · iexact HW8
    iexact Howe
  iintro %v ⟨⟨%f7, HF7⟩, HV5, HD5, HS5, ⟨%f8, HF8⟩, ⟨%W, Howe⟩⟩
  rw [wp_bind]
  iapply (wp_wand_r Idealize.ShloMosaic.frame (wpE (defs₀ (F := F)) 𝒱₀ (VT L d) none) Set.univ)
  isplitl [HF6 HO6 HS3 HW9 Howe]
  · iapply (part7_run m L d hin O q W _ f6)
    isplitr; · iexact Hmw
    isplitl [HF6]; · iexact HF6
    isplitl [HO6]; · iexact HO6
    isplitl [HS3]; · iexact HS3
    isplitl [HW9]; · iexact HW9
    iexact Howe
  iintro %v ⟨HV6, HD6, HS3, ⟨%f9, HF9⟩, ⟨%W, Howe⟩⟩
  rw [wp_bind]
  iapply (wp_wand_r Idealize.ShloMosaic.frame (wpE (defs₀ (F := F)) 𝒱₀ (VT L d) none) Set.univ)
  isplitl [HF7 HO7 HS4 HW10 HF8 Howe]
  · iapply (part8_run m L d hin O q W _ f7 f8)
    isplitr; · iexact Hmw
    isplitl [HF7]; · iexact HF7
    isplitl [HO7]; · iexact HO7
    isplitl [HS4]; · iexact HS4
    isplitl [HW10]; · iexact HW10
    isplitl [HF8]; · iexact HF8
    iexact Howe
  iintro %v ⟨HV7, HD7, HS4, ⟨%f10, HF10⟩, ⟨%f8, HT8⟩, HX2, HS2, HV8, ⟨%W, Howe⟩⟩
  rw [wp_bind]
  iapply (wp_wand_r Idealize.ShloMosaic.frame (wpE (defs₀ (F := F)) 𝒱₀ (VT L d) none) Set.univ)
  isplitl [HO8 HT8 HS5 HX2 HS2 HW11 HF9 Howe]
  · iapply (part9_run m L d hin O q W _ f8 f9)
    isplitr; · iexact Hmw
    isplitl [HO8]; · iexact HO8
    isplitl [HT8]; · iexact HT8
    isplitl [HS5]; · iexact HS5
    isplitl [HX2]; · iexact HX2
    isplitl [HS2]; · iexact HS2
    isplitl [HW11]; · iexact HW11
    isplitl [HF9]; · iexact HF9
    iexact Howe
  iintro %v ⟨HD8, HS5, ⟨%f11, HF11⟩, ⟨%f9, HT9⟩, HX0, HS0, HV9, ⟨%W, Howe⟩⟩
  rw [wp_bind]
  iapply (wp_wand_r Idealize.ShloMosaic.frame (wpE (defs₀ (F := F)) 𝒱₀ (VT L d) none) Set.univ)
  isplitl [HO9 HT9 HS3 HF10 HO10 HS4 HF11 HO11 HS5 Howe]
  · iapply (part10_run m L d hin O q W _ f9 f10 f11)
    isplitr; · iexact Hmw
    isplitl [HO9]; · iexact HO9
    isplitl [HT9]; · iexact HT9
    isplitl [HS3]; · iexact HS3
    isplitl [HF10]; · iexact HF10
    isplitl [HO10]; · iexact HO10
    isplitl [HS4]; · iexact HS4
    isplitl [HF11]; · iexact HF11
    isplitl [HO11]; · iexact HO11
    isplitl [HS5]; · iexact HS5
    iexact Howe
  iintro %v ⟨⟨%f9, HR9⟩, HX1, HS1, HV10, ⟨%f10, HR10⟩, HX2, HS2, HV11, ⟨%f11, HR11⟩, ⟨%W, Howe⟩⟩
  sl_exec
  ihave HD9 := (out_landed (F := F) m L d 2304#32 9 rfl (m (oLoc d))) $$ HR9_dst
  ihave HD10 := (out_landed (F := F) m L d 2560#32 10 rfl (m (oLoc d))) $$ HR10_dst
  ihave HD11 := (out_landed (F := F) m L d 2816#32 11 rfl (m (oLoc d))) $$ HR11_dst
  rw [wp_ret]; imodintro
  isplitl [HI]; · iexact HI
  isplitl [HX0]; · iexact HX0
  isplitl [HX1]; · iexact HX1
  isplitl [HX2]; · iexact HX2
  isplitl [HD0 HD1 HD2 HD3 HD4 HD5 HD6 HD7 HD8 HD9 HD10 HD11]
  · isplitl [HD0]; · iexact HD0
    isplitl [HD1]; · iexact HD1
    isplitl [HD2]; · iexact HD2
    isplitl [HD3]; · iexact HD3
    isplitl [HD4]; · iexact HD4
    isplitl [HD5]; · iexact HD5
    isplitl [HD6]; · iexact HD6
    isplitl [HD7]; · iexact HD7
    isplitl [HD8]; · iexact HD8
    isplitl [HD9]; · iexact HD9
    isplitl [HD10]; · iexact HD10
    iexact HD11
  isplitl [HV0 HV1 HV2 HV3 HV4 HV5 HV6 HV7 HV8 HV9 HV10 HV11]
  · iapply (Entails.of_eq (list_windows (F := F) m L d).symm); isplitl [HV0]; · iexact HV0
    isplitl [HV1]; · iexact HV1
    isplitl [HV2]; · iexact HV2
    isplitl [HV3]; · iexact HV3
    isplitl [HV4]; · iexact HV4
    isplitl [HV5]; · iexact HV5
    isplitl [HV6]; · iexact HV6
    isplitl [HV7]; · iexact HV7
    isplitl [HV8]; · iexact HV8
    isplitl [HV9]; · iexact HV9
    isplitl [HV10]; · iexact HV10
    iexact HV11
  isplitl [HR9_src HR10_src HR11_src]
  · iapply (stage_join (F := F) L d _ _ _); isplitl [HR9_src]; · iexact HR9_src
    isplitl [HR10_src]; · iexact HR10_src
    iexact HR11_src
  isplitl [HS0 HS1 HS2 HR9 HR10 HR11 HS6]
  · isplitl [HS0]; · iexact HS0
    isplitl [HS1]; · iexact HS1
    isplitl [HS2]; · iexact HS2
    isplitl [HR9]; · iexact HR9
    isplitl [HR10]; · iexact HR10
    isplitl [HR11]; · iexact HR11
    iexact HS6
  iexists _; iexact Howe

end Cert.Proof.Lookup
-- ==== Proof.Obl.lean ====
/-
  What the one SparseCore call hands its tasks and takes back, the task's obligation, and the operands whole as the tasks' pieces:
  a task's slice of the list, a read share of the table, its twelve chunks of the result's rows.
-/
module

public import Idealize.ShloMosaic.Lib.ShareLeaves
public import proofs.«01_k».proof.Proof.Task

@[expose] public section

noncomputable section

namespace Cert.Proof.Lookup

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Idealize.ShloMosaic.SparseCore.Cfg (ownCells ownSems0 ownBufs ownRefs mem_ownCells)

variable {F : FTy → Type} [FloatOps F]
variable (m : (ℓ : Loc nD τ sig) → Buf (Elt F) ℓ)
local notation "𝕄" => MT nD τ sig (HIx 1) (Elt F) ℕ UU ℕ

/-- The coordinates of the task on subcore `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

/-! ## The pieces of one task -/

section Pieces
variable (d : Dev nD)

/-- The tasks, numbered. -/
def taskNo : Fin 2 × Fin 16 ≃ Fin (2 ^ 5) := finProdFinEquiv.trans (finCongr (by decide))
/-- The share of the table the task `(c, s)` reads through: one of the 32 leaves. -/
abbrev xq (p : Fin 2 × Fin 16) : PosShare TreeShare := ShareLeaves.leaf 5 fullShare (taskNo p)
abbrev iSet (p : Fin 2 × Fin 16) : Finset S98304.Idx := (iK (coordsV p.1 p.2)).view.set
abbrev oSet (p : Fin 2 × Fin 16) (r : Fin 12) : Finset S98304x128.Idx := (oK (coordsV p.1 p.2) r).view.set
abbrev iPc (p : Fin 2 × Fin 16) : sProp 𝕄 := iLoc d ↦[iSet p]{fullShare} flat m d
abbrev xPc (p : Fin 2 × Fin 16) : sProp 𝕄 := xLoc d ↦{xq p} m (xLoc d)
abbrev oPc (f : Buf (Elt F) (oLoc d)) (p : Fin 2 × Fin 16) : sProp 𝕄 := bigSep Finset.univ fun r : Fin 12 => oLoc d ↦[oSet p r]{fullShare} f

end Pieces

/-- Each task is handed its slice of the list, its share of the table and its rows of the result, and hands them back with the rows looked up. -/
def P : (K (F := F)).Pay (nD := nD) (Val := Elt F) (Name := ℕ) (U := UU) where
  st := fun q d c => match q with
    | 0 => bigSep Finset.univ fun s : Fin 16 => iprop(iPc m d (c, s) ∗ xPc m d (c, s) ∗ oPc d (m (oLoc d)) (c, s))
  dn := fun q d c => match q with
    | 0 => bigSep Finset.univ fun s : Fin 16 => iprop(iPc m d (c, s) ∗ xPc m d (c, s) ∗ oPc d (looked m d) (c, s))
  go := fun q d c s => match q with
    | 0 => iprop(iPc m d (c, s) ∗ xPc m d (c, s) ∗ oPc d (m (oLoc d)) (c, s))
  td := fun q d c s => match q with
    | 0 => iprop(iPc m d (c, s) ∗ xPc m d (c, s) ∗ oPc d (looked m d) (c, s))
  x := fun _ _ => iprop(emp)

instance P_storable : (P (F := F) m).IsStorable where
  st q d c := match q with
    | 0 => (inferInstance : BI.Storable (upEmb : UEmb _ 𝕄)
        (bigSep Finset.univ fun s : Fin 16 => iprop(iPc m d (c, s) ∗ xPc m d (c, s) ∗ oPc d (m (oLoc d)) (c, s))))
  dn q d c := match q with
    | 0 => (inferInstance : BI.Storable (upEmb : UEmb _ 𝕄)
        (bigSep Finset.univ fun s : Fin 16 => iprop(iPc m d (c, s) ∗ xPc m d (c, s) ∗ oPc d (looked m d) (c, s))))
  go q d c s := match q with
    | 0 => (inferInstance : BI.Storable (upEmb : UEmb _ 𝕄) iprop(iPc m d (c, s) ∗ xPc m d (c, s) ∗ oPc d (m (oLoc d)) (c, s)))
  td q d c s := match q with
    | 0 => (inferInstance : BI.Storable (upEmb : UEmb _ 𝕄) iprop(iPc m d (c, s) ∗ xPc m d (c, s) ∗ oPc d (looked m d) (c, s)))

theorem vecSplit : (K (F := F)).VecSplit' (P m) 0 := by
  intro d c
  show (bigSep Finset.univ fun s : Fin 16 => iprop(iPc m d (c, s) ∗ xPc m d (c, s) ∗ oPc d (m (oLoc d)) (c, s)) : sProp 𝕄)
    ⊢ |={Set.univ}=> iprop((bigSep Finset.univ fun s : Fin 16 => iprop(iPc m d (c, s) ∗ xPc m d (c, s) ∗ oPc d (m (oLoc d)) (c, s)))
      ∗ ((bigSep Finset.univ fun s : Fin 16 => iprop(iPc m d (c, s) ∗ xPc m d (c, s) ∗ oPc d (looked m d) (c, s)))
          -∗ (bigSep Finset.univ fun s : Fin 16 => iprop(iPc m d (c, s) ∗ xPc m d (c, s) ∗ oPc d (looked m d) (c, s)))))
  iintro H; imodintro
  isplitl [H]; · iexact H
  iintro H; iexact H

/-! ## The operands whole are the tasks' pieces -/

theorem iSet_eq (p : Fin 2 × Fin 16) : iSet p = (Rect.unit (s := S98304) (k0_off1 (coordsV p.1 p.2)) S3072.size (k0_off1_inb (coordsV p.1 p.2))).set :=
  View.set_slice_whole _ _
theorem oSet_eq (p : Fin 2 × Fin 16) (r : Fin 12) : oSet p r = (oRect (coordsV p.1 p.2) r).set :=
  View.set_slice_whole _ _

theorem mem_iSet {p : Fin 2 × Fin 16} {x : S98304.Idx} :
    x ∈ iSet p ↔ 6144 * p.2.val + 3072 * p.1.val ≤ (x 0).val ∧ (x 0).val < 6144 * p.2.val + 3072 * p.1.val + 3072 := by
  rw [iSet_eq, Rect.mem_set_unit, k0_off1_eq]
  constructor
  · intro h; exact h 0
  · intro h a; fin_cases a; exact h

theorem mem_oSet {p : Fin 2 × Fin 16} {r : Fin 12} {x : S98304x128.Idx} :
    x ∈ oSet p r ↔ 6144 * p.2.val + 3072 * p.1.val + 256 * r.val ≤ (x 0).val ∧ (x 0).val < 6144 * p.2.val + 3072 * p.1.val + 256 * r.val + 256 := by
  rw [oSet_eq, Rect.mem_set_unit, k0_off2_eq]
  have h1 : (x 1).val < 128 := (x 1).isLt
  constructor
  · intro h; exact h 0
  · intro h a; fin_cases a
    · exact h
    · show 0 ≤ (x 1).val ∧ (x 1).val < 0 + 128; omega

theorem iSet_disjoint : ∀ p ∈ (Finset.univ : Finset (Fin 2 × Fin 16)), ∀ p' ∈ (Finset.univ : Finset (Fin 2 × Fin 16)), p ≠ p' → Disjoint (iSet p) (iSet p') := by
  intro p _ p' _ h
  rw [Finset.disjoint_left]
  intro x hx hx'
  rw [mem_iSet] at hx hx'
  have := p.1.isLt; have := p'.1.isLt
  exact h (Prod.ext (Fin.ext (by omega)) (Fin.ext (by omega)))

set_option maxRecDepth 8192 in
theorem iSet_cover : (Finset.univ : Finset (Fin 2 × Fin 16)).biUnion iSet = Finset.univ := by
  refine Finset.eq_univ_of_forall fun x => Finset.mem_biUnion.mpr ?_
  have h0 : (x 0).val < 98304 := (x 0).isLt
  refine ⟨(⟨(x 0).val / 3072 % 2, by omega⟩, ⟨(x 0).val / 6144, by omega⟩), Finset.mem_univ _, ?_⟩
  rw [mem_iSet]
  dsimp only
  omega

theorem oSet_disjoint : ∀ p ∈ (Finset.univ : Finset ((Fin 2 × Fin 16) × Fin 12)), ∀ p' ∈ (Finset.univ : Finset ((Fin 2 × Fin 16) × Fin 12)), p ≠ p' →
    Disjoint (oSet p.1 p.2) (oSet p'.1 p'.2) := by
  intro p _ p' _ h
  rw [Finset.disjoint_left]
  intro x hx hx'
  rw [mem_oSet] at hx hx'
  have := p.1.1.isLt; have := p'.1.1.isLt; have := p.2.isLt; have := p'.2.isLt
  exact h (Prod.ext (Prod.ext (Fin.ext (by omega)) (Fin.ext (by omega))) (Fin.ext (by omega)))

set_option maxRecDepth 8192 in
theorem oSet_cover : (Finset.univ : Finset ((Fin 2 × Fin 16) × Fin 12)).biUnion (fun p => oSet p.1 p.2) = Finset.univ := by
  refine Finset.eq_univ_of_forall fun x => Finset.mem_biUnion.mpr ?_
  have h0 : (x 0).val < 98304 := (x 0).isLt
  refine ⟨((⟨(x 0).val / 3072 % 2, by omega⟩, ⟨(x 0).val / 6144, by omega⟩), ⟨(x 0).val / 256 % 12, by omega⟩), Finset.mem_univ _, ?_⟩
  rw [mem_oSet]
  dsimp only
  omega

theorem iPts_tasks (d : Dev nD) (f : Buf (Elt F) (iLoc d)) :
    (iLoc d ↦{fullShare} f : sProp 𝕄) = bigSep Finset.univ fun p : Fin 2 × Fin 16 => iLoc d ↦[iSet p]{fullShare} f := by
  rw [← pointsTo_biUnion Finset.univ (ℓ := iLoc d) iSet iSet_disjoint, iSet_cover]; try rfl
theorem oPts_tasks (d : Dev nD) (f : Buf (Elt F) (oLoc d)) :
    (oLoc d ↦{fullShare} f : sProp 𝕄) = bigSep Finset.univ fun p : Fin 2 × Fin 16 => oPc d f p := by
  have e : (oLoc d ↦{fullShare} f : sProp 𝕄) = bigSep Finset.univ fun p : (Fin 2 × Fin 16) × Fin 12 => oLoc d ↦[oSet p.1 p.2]{fullShare} f := by
    rw [← pointsTo_biUnion Finset.univ (ℓ := oLoc d) (fun p : (Fin 2 × Fin 16) × Fin 12 => oSet p.1 p.2) oSet_disjoint, oSet_cover]; try rfl
  rw [e, BI.bigSep_univ_prod]
theorem xPts_tasks (d : Dev nD) (f : Buf (Elt F) (xLoc d)) :
    (xLoc d ↦{fullShare} f : sProp 𝕄) = bigSep Finset.univ fun p : Fin 2 × Fin 16 => xLoc d ↦{xq p} f := by
  rw [ShareLeaves.pointsTo_leaves Finset.univ f 5 fullShare]
  exact bigSep_univ_equiv taskNo (fun i : Fin (2 ^ 5) => (xLoc d ↦[Finset.univ]{ShareLeaves.leaf 5 fullShare i} f : sProp 𝕄))

/-- The three arrays whole, the result at `f`, are what the two SparseCores are handed or hand back. -/
theorem cores_eq (d : Dev nD) (f : Buf (Elt F) (oLoc d)) :
    (bigSep Finset.univ fun c : Fin 2 => bigSep Finset.univ fun s : Fin 16 => iprop(iPc m d (c, s) ∗ xPc m d (c, s) ∗ oPc d f (c, s)))
      = (iprop((iLoc d ↦{fullShare} flat m d) ∗ (xLoc d ↦{fullShare} m (xLoc d)) ∗ oLoc d ↦{fullShare} f) : sProp 𝕄) := by
  rw [iPts_tasks, xPts_tasks, oPts_tasks, ← bigSep_sep', ← bigSep_sep', BI.bigSep_univ_prod]

/-! ## The task -/

section Tile
variable (L : grid0.Coords) (d : Dev nD)

theorem set_xW : (xW).view.set = Finset.univ := by
  refine (View.set_slice_whole _ _).trans (Finset.eq_univ_of_forall fun y => ?_)
  rw [Rect.mem_set_unit]
  intro a
  have h0 : (y 0).val < 1000000 := (y 0).isLt
  have h1 : (y 1).val < 128 := (y 1).isLt
  fin_cases a
  · show 0 ≤ (y 0).val ∧ (y 0).val < 0 + 1000000; omega
  · show 0 ≤ (y 1).val ∧ (y 1).val < 0 + 128; omega

/-- A share of the table as what stays with the task and three read tokens: three gathers may be in flight at once. -/
theorem xToks (q : PosShare TreeShare) :
    (xLoc d ↦{q} m (xLoc d) : sProp 𝕄) ⊣⊢ iprop((xLoc d ↦{Transfers.shareDrop q 3} m (xLoc d)) ∗ Tok m L d q 0 ∗ Tok m L d q 1 ∗ Tok m L d q 2) := by
  have h : (xLoc d ↦{q} m (xLoc d) : sProp 𝕄) ⊣⊢ iprop((xLoc d ↦{Transfers.shareDrop q 3} m (xLoc d)) ∗ bigSep (Finset.range 3) fun i => xLoc d ↦{Transfers.shareTokN q i} m (xLoc d)) :=
    Transfers.pointsTo_toks_range (ℓ := xLoc d) (S := Finset.univ) (f := m (xLoc d)) q 3
  rw [show Finset.range 3 = {0, 1, 2} by decide, SparseCore.bigSep_insert' (by decide), SparseCore.bigSep_insert' (by decide), bigSep_singleton] at h
  unfold Tok
  rw [set_xW]
  exact h

/-- The cells the task names, as a family. -/
theorem cell_mem (k : Fin 7) : cell L d k ∈ ownCells (VT L d) :=
  mem_ownCells.mpr ⟨rfl, (show ∀ s : DmaSem sig, (SemLoc.dma s : SemLoc sig).isScoped .scVector = true by decide) _⟩

abbrev cells0 : sProp 𝕄 := iprop(semVal (cell L d 0) 0 ∗ semVal (cell L d 1) 0 ∗ semVal (cell L d 2) 0 ∗ semVal (cell L d 3) 0 ∗ semVal (cell L d 4) 0 ∗ semVal (cell L d 5) 0 ∗ semVal (cell L d 6) 0)

/-- The subcore's own cells at zero: the seven the task names, one by one, and the rest. -/
theorem ownSems0_V :
    (ownSems0 (VT L d) : sProp 𝕄)
      = iprop(cells0 (F := F) L d ∗ bigSep ((ownCells (VT L d)) \ Finset.univ.image (cell L d)) fun g => semVal g 0) := by
  unfold SparseCore.Cfg.ownSems0
  rw [SparseCore.bigSep_sdiff_split' (t := Finset.univ.image (cell L d)) (Finset.image_subset_iff.mpr fun k _ => cell_mem L d k),
    SparseCore.bigSep_image_of_injOn (fun a _ b _ h => by
      have := congrArg (fun g : GSem nD τ sig => g.2) h
      simp only [SemLoc.dma.injEq, Fin.mk.injEq] at this; exact Fin.ext this),
    bigSep_univ_eq_bigSepL [0, 1, 2, 3, 4, 5, 6] (by decide) (by decide)]
  rfl

/-- The list and the stage are among the subcore's own buffers: they are them, at some contents, and the rest. -/
theorem ownBufs_V :
    (ownBufs (VT L d) : sProp 𝕄)
      = iprop((∃ f, (VT L d).loc cc0_scratch0 ↦{fullShare} f) ∗ (∃ f, (VT L d).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-- A task's twelve chunks of the result, one by one. -/
theorem oPc_chunks (p : Fin 2 × Fin 16) (f : Buf (Elt F) (oLoc d)) :
    (oPc d f p : sProp 𝕄) = (let L := coordsV p.1 p.2; iprop(OutAt (F := F) L d 0#32 0 f ∗ OutAt (F := F) L d 256#32 1 f ∗ OutAt (F := F) L d 512#32 2 f ∗ OutAt (F := F) L d 768#32 3 f ∗ OutAt (F := F) L d 1024#32 4 f ∗ OutAt (F := F) L d 1280#32 5 f ∗ OutAt (F := F) L d 1536#32 6 f ∗ OutAt (F := F) L d 1792#32 7 f ∗ OutAt (F := F) L d 2048#32 8 f ∗ OutAt (F := F) L d 2304#32 9 f ∗ OutAt (F := F) L d 2560#32 10 f ∗ OutAt (F := F) L d 2816#32 11 f)) :=
  bigSep_univ_eq_bigSepL [0, 1, 2, 3, 4, 5, 6, 7, 8, 9, 10, 11] (by decide) (by decide) _

end Tile

section Obl
variable (d : Dev nD) (p : Fin 2 × Fin 16)

theorem tile_body (hF : (K (F := F)).Facts) (hin : InRange m) (O : CellTallies nD τ sig (HIx 1)) (W : Waits sig (HIx 1)) (hO : ∀ g, O g none = 0) :
    iprop(levAts (K (F := F)).L (K (F := F)).lev ∗ emp
        ∗ (iPc m d p ∗ xPc m d p ∗ oPc d (m (oLoc d)) p)
        ∗ scopedBufs (VT (coordsV p.1 p.2) d) ∗ scopedSems0 (VT (coordsV p.1 p.2) d) ∗ owes (VT (coordsV p.1 p.2) d) O W)
      ⊢ wp frame (wpE (defs₀ (F := F)) 𝒱₀ (VT (coordsV p.1 p.2) d) none) Set.univ
          (cc0_k (coordsV p.1 p.2) xV (Memref.isWhole_whole _) iV (Memref.isWhole_whole _) oV (Memref.isWhole_whole _) lV (Memref.isWhole_whole _) tV (Memref.isWhole_whole _) cc0_scratch2 cc0_scratch3 cc0_scratch4 cc0_scratch5 cc0_scratch6 cc0_scratch7 cc0_scoped0)
          fun _ => iprop((iPc m d p ∗ xPc m d p ∗ oPc d (looked m d) p)
            ∗ scopedBufs (VT (coordsV p.1 p.2) d) ∗ scopedSems0 (VT (coordsV p.1 p.2) d)
            ∗ ∃ W', ⌜∀ p ∈ W', p ∈ W ∨ p.2 = none ∨ p.2 = some (0 : Fin 1)⌝ ∗ owes (VT (coordsV p.1 p.2) d) O W') := by
  rw [(K (F := F)).scopedBufs_V hF d (cV (coordsV p.1 p.2)) (jV (coordsV p.1 p.2)),
    SparseCore.Cfg.scopedSems0_V (Val := Elt F) d (cV (coordsV p.1 p.2)) (jV (coordsV p.1 p.2)), ownSems0_V, ownBufs_V, oPc_chunks, oPc_chunks]
  iintro ⟨#Hlv, -, ⟨Hi, Hx, Ho⟩, ⟨⟨%g0, HG⟩, ⟨%t0, HT⟩, Hbufs⟩, ⟨HC, Hsems⟩, HO⟩
  ihave Hmw := (show levAts (K (F := F)).L (K (F := F)).lev ⊢ Transfers.MayWaits (VT (coordsV p.1 p.2) d) (default : HIx 1) O from
    (K (F := F)).mayWaits_none (thr := VT (coordsV p.1 p.2) d) hO) $$ Hlv
  ihave Hx' := (xToks (F := F) m (coordsV p.1 p.2) d (xq p)).1 $$ Hx
  icases Hx' with ⟨Hxr, Hx0, Hx1, Hx2⟩
  ihave HG' := (Entails.of_eq (show ((VT (coordsV p.1 p.2) d).loc cc0_scratch0 ↦{fullShare} g0 : sProp 𝕄)
    = ((lV).view.loc (VT (coordsV p.1 p.2) d) ↦[(lV).view.set]{fullShare} g0) by rw [View.set_whole])) $$ HG
  iapply (wp_wand_r Idealize.ShloMosaic.frame (wpE (defs₀ (F := F)) 𝒱₀ (VT (coordsV p.1 p.2) d) none) Set.univ)
  isplitl [Hi Hx0 Hx1 Hx2 Ho HG' HT HC HO]
  · iapply (tile_run m (coordsV p.1 p.2) d hin O (xq p) W g0 t0)
    isplitr; · iexact Hmw
    isplitl [Hi]; · iexact Hi
    isplitl [Hx0]; · iexact Hx0
    isplitl [Hx1]; · iexact Hx1
    isplitl [Hx2]; · iexact Hx2
    isplitl [Ho]; · iexact Ho
    isplitl [HG']; · iexact HG'
    isplitl [HT]; · iexact HT
    isplitl [HC]; · iexact HC
    iexact HO
  iintro %_ ⟨Hi, Hx0, Hx1, Hx2, Ho, HG', HT, HC, ⟨%W', HO⟩⟩
  ihave Hx := (xToks (F := F) m (coordsV p.1 p.2) d (xq p)).2 $$ [Hxr Hx0 Hx1 Hx2]
  · isplitl [Hxr]; · iexact Hxr
    isplitl [Hx0]; · iexact Hx0
    isplitl [Hx1]; · iexact Hx1
    iexact Hx2
  ihave HG := (Entails.of_eq (show ((lV).view.loc (VT (coordsV p.1 p.2) d) ↦[(lV).view.set]{fullShare} tlist m (coordsV p.1 p.2) d : sProp 𝕄)
    = ((VT (coordsV p.1 p.2) d).loc cc0_scratch0 ↦{fullShare} tlist m (coordsV p.1 p.2) d) by rw [View.set_whole])) $$ HG'
  isplitl [Hi Hx Ho]
  · isplitl [Hi]; · iexact Hi
    isplitl [Hx]; · iexact Hx
    iexact Ho
  isplitl [HG HT Hbufs]
  · isplitl [HG]; · iexists _; iexact HG
    isplitl [HT]; · iexact HT
    iexact Hbufs
  isplitl [HC Hsems]
  · isplitl [HC]; · iexact HC
    iexact Hsems
  iexists W'; isplitr
  · ipureintro; intro p _
    rcases p.2 with _ | q
    · exact .inr (.inl rfl)
    · exact .inr (.inr (congrArg some (Subsingleton.elim q 0)))
  · iexact HO

end Obl

theorem defs₀_vector (c : Fin τ.nSC) (s : Fin τ.nSub) :
    defs₀ (F := F) (.scVector c s) 0 ()
      = SparseCore.onTile hcore0 hsub0 (fun c s => cc0_k (coordsV c s)
          xV (Memref.isWhole_whole _) iV (Memref.isWhole_whole _) oV (Memref.isWhole_whole _) lV (Memref.isWhole_whole _) tV (Memref.isWhole_whole _)
          cc0_scratch2 cc0_scratch3 cc0_scratch4 cc0_scratch5 cc0_scratch6 cc0_scratch7 cc0_scoped0) ⟨⟩ c s := rfl

theorem tileObl (hF : (K (F := F)).Facts) (hin : InRange m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body m d (c, i) hF hin O W hO

end Cert.Proof.Lookup
-- ==== Proof.Region.lean ====
/-
  The perceptron's region: its body run once at a symbolic grid point, what the sixteen points leave of the result as one
  function of the arrays they read, and the region's step as the main program takes it.
-/
module

public import proofs.«01_k».proof.Proof.Setup
public import proofs.«01_k».proof.Proof.Gen.KernelIdeal.Launch
public import proofs.«01_k».proof.Proof.Gen.KernelIdeal.Points
public import Idealize.ShloMosaic.Lib.Pipeline.Regions
public import Idealize.ShloMosaic.Lib.Pipeline.FrameBody
public import Idealize.ShloMosaic.Lib.Pipeline.Value

@[expose] public section

noncomputable section

namespace Cert.Proof.Lookup

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.ShloMosaic.Pipeline (Dat BodyObligation Window)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The value of a block -/

/-- Field `k`'s rows of a block of looked-up rows, and field `k`'s weights. -/
def xSlab (x : Vec F S6x1024x128 .f32) (k : Fin 6) : Vec F S1x1024x128 .f32 := fun j => x (fun | 0 => k | 1 => j 1 | 2 => j 2)
def wSlab (w : Vec F S6x128x128 .f32) (k : Fin 6) : Vec F S1x128x128 .f32 := fun j => w (fun | 0 => k | 1 => j 1 | 2 => j 2)

/-- What the body stores: the perceptron of a block of rows, the fields' products added in order. -/
def mlp (x : Vec F S6x1024x128 .f32) (w : Vec F S6x128x128 .f32) (bh : Vec F S1x128 .f32) (wo : Vec F S128x91 .f32) (bo : Vec F S1x91 .f32) :
    FVec F S1024x91 .f32 :=
  k1_pay1 (k1_pay2 (xSlab x 0) (wSlab w 0) (xSlab x 1) (wSlab w 1) (xSlab x 2) (wSlab w 2) (xSlab x 3) (wSlab w 3)) (k1_pay3 (xSlab x 4))
    (wSlab w 4) (xSlab x 5) (wSlab w 5) bh wo bo

theorem ld_xSlab (x : Vec F S6x1024x128 .f32) (k : Fin 6) (h) :
    View.ld x (Rect.unit (s := S6x1024x128) ![k.val, 0, 0] S1x1024x128.size h) = xSlab x k := by
  funext j
  unfold xSlab
  show x _ = x _
  refine congrArg x (funext fun a => Fin.ext ?_)
  match a with
  | ⟨0, _⟩ => show k.val + 1 * (j 0).val = k.val; have : (j 0).val < 1 := (j 0).isLt; omega
  | ⟨1, _⟩ => show 0 + 1 * (j 1).val = (j 1).val; omega
  | ⟨2, _⟩ => show 0 + 1 * (j 2).val = (j 2).val; omega

theorem ld_wSlab (x : Vec F S6x128x128 .f32) (k : Fin 6) (h) :
    View.ld x (Rect.unit (s := S6x128x128) ![k.val, 0, 0] S1x128x128.size h) = wSlab x k := by
  funext j
  unfold wSlab
  show x _ = x _
  refine congrArg x (funext fun a => Fin.ext ?_)
  match a with
  | ⟨0, _⟩ => show k.val + 1 * (j 0).val = k.val; have : (j 0).val < 1 := (j 0).isLt; omega
  | ⟨1, _⟩ => show 0 + 1 * (j 1).val = (j 1).val; omega
  | ⟨2, _⟩ => show 0 + 1 * (j 2).val = (j 2).val; omega

theorem hz2 : (![0, 0] : Fin 2 → Nat) = fun _ => 0 := funext fun a => by fin_cases a <;> rfl

theorem mem_unit_zero {S : Shape} {off : Fin S.rank → Nat} (h : off = fun _ => 0) (inb : ∀ a, off a + S.size a ≤ S.size a) (y : S.Idx) :
    y ∈ (Rect.unit off S.size inb).set := by
  subst h
  rw [show Rect.unit (fun _ => 0) S.size inb = Rect.whole S from rfl, Rect.set_whole]; exact Finset.mem_univ y

/-! ## The body, run once -/

/-- From the five inputs' blocks and the output's staging buffer at anything the body runs to its return, the inputs
    kept and the output at the block's perceptron. -/
theorem bodyRun [∀ e, Nonempty (Elt F e)] (c : Dev nD) (i : grid1.Coords)
    (arg1 : Memref sig .tc .vmem S6x1024x128 .f32) (h1 : arg1.IsWhole) (arg2 : Memref sig .tc .vmem S6x128x128 .f32) (h2 : arg2.IsWhole)
    (arg3 : Memref sig .tc .vmem S1x128 .f32) (h3 : arg3.IsWhole) (arg4 : Memref sig .tc .vmem S128x91 .f32) (h4 : arg4.IsWhole)
    (arg5 : Memref sig .tc .vmem S1x91 .f32) (h5 : arg5.IsWhole) (arg6 : Memref sig .tc .vmem S1024x91 .f32) (h6 : arg6.IsWhole)
    (x : Vec F S6x1024x128 .f32) (w : Vec F S6x128x128 .f32) (bh : Vec F S1x128 .f32) (wo : Vec F S128x91 .f32) (bo : Vec F S1x91 .f32)
    (Kp : PUnit → sProp 𝕄) :
    iprop(owns (c : Thread nD τ) arg1 fullShare x ∗ owns (c : Thread nD τ) arg2 fullShare w ∗ owns (c : Thread nD τ) arg3 fullShare bh
        ∗ owns (c : Thread nD τ) arg4 fullShare wo ∗ owns (c : Thread nD τ) arg5 fullShare bo ∗ (∃ d, owns (c : Thread nD τ) arg6 fullShare d)
        ∗ (iprop(owns (c : Thread nD τ) arg1 fullShare x ∗ owns (c : Thread nD τ) arg2 fullShare w ∗ owns (c : Thread nD τ) arg3 fullShare bh
          ∗ owns (c : Thread nD τ) arg4 fullShare wo ∗ owns (c : Thread nD τ) arg5 fullShare bo
          ∗ owns (c : Thread nD τ) arg6 fullShare (mlp x w bh wo bo)) -∗ Kp ⟨⟩))
      ⊢ wp frame (wpE (defs₀ (F := F)) 𝒱₀ (c : Thread nD τ) none) Set.univ
          (cc1__mlp_body i arg1 h1 arg2 h2 arg3 h3 arg4 h4 arg5 h5 arg6 h6) Kp := by
  simp only [cc1__mlp_body_eq_skeleton]; unfold cc1__mlp_body_skel
  simp only [k1_part1_eq_skeleton]; unfold k1_part1_skel
  unfold owns
  iintro ⟨⟨%f1, %e1, H1⟩, ⟨%f2, %e2, H2⟩, ⟨%f3, %e3, H3⟩, ⟨%f4, %e4, H4⟩, ⟨%f5, %e5, H5⟩, ⟨%d6, %f6, -, H6⟩, Hk⟩
  sl_exec
  sl_step
  iapply Hk
  isplitl [H1]; · iexists f1; isplitr; · ipureintro; exact e1
                  iexact H1
  isplitl [H2]; · iexists f2; isplitr; · ipureintro; exact e2
                  iexact H2
  isplitl [H3]; · iexists f3; isplitr; · ipureintro; exact e3
                  iexact H3
  isplitl [H4]; · iexists f4; isplitr; · ipureintro; exact e4
                  iexact H4
  isplitl [H5]; · iexists f5; isplitr; · ipureintro; exact e5
                  iexact H5
  iexists _; isplitr; swap; · iexact H6
  ipureintro
  rw [View.read_writes_eq_canon _ _ _ (fun y => ⟨_, List.mem_singleton.mpr rfl, by
    exact mem_unit_zero hz2 inb_S1024x91_S1024x91_0_0 y⟩)]
  refine (View.canon_unit_zero hz2 _ _).trans ?_
  unfold mlp
  subst e1 e2 e3 e4 e5
  simp only [View.readAt_eq_ld]
  rw [← ld_xSlab _ 0 inb_S6x1024x128_S1x1024x128_0_0_0, ← ld_xSlab _ 1 inb_S6x1024x128_S1x1024x128_1_0_0, ← ld_xSlab _ 2 inb_S6x1024x128_S1x1024x128_2_0_0,
    ← ld_xSlab _ 3 inb_S6x1024x128_S1x1024x128_3_0_0, ← ld_xSlab _ 4 inb_S6x1024x128_S1x1024x128_4_0_0, ← ld_xSlab _ 5 inb_S6x1024x128_S1x1024x128_5_0_0,
    ← ld_wSlab _ 0 inb_S6x128x128_S1x128x128_0_0_0, ← ld_wSlab _ 1 inb_S6x128x128_S1x128x128_1_0_0, ← ld_wSlab _ 2 inb_S6x128x128_S1x128x128_2_0_0,
    ← ld_wSlab _ 3 inb_S6x128x128_S1x128x128_3_0_0, ← ld_wSlab _ 4 inb_S6x128x128_S1x128x128_4_0_0, ← ld_wSlab _ 5 inb_S6x128x128_S1x128x128_5_0_0]
  rw [View.ld_unit_zero hz2, View.ld_unit_zero hz2, View.ld_unit_zero hz2]
  rfl

/-! ## The pipeline's proof data -/

section Region
variable (V : (d : Dev nD) → (b : Ref sig .tc) → Buf (Elt F) ((d : Thread nD τ).loc b))

/-- The block of window `w`'s array at point `t`, as the region finds the array. -/
abbrev iblk (d : Dev nD) (w : Fin cfg1.W) (t : Fin cfg1.N) := ((cfg1.win w).blk t).view.read (Elt F) (V d (Pipeline.arrRef spec1 w))

/-- What the body leaves of the output's block at point `t`. -/
abbrev oblk (d : Dev nD) (t : Fin cfg1.N) : FVec F S1024x91 .f32 :=
  mlp (iblk V d 0 t) (iblk V d 1 t) (iblk V d 2 t) (iblk V d 3 t) (iblk V d 4 t)

/-- The level the one SparseCore call leaves the TensorCore's recorded waits at or below. -/
abbrev lvl1 : ℕ := 8 * (inferInstance : SparseCore.Cfg.Blocks 1 1).fst 1

/-- The proof data: the arrays as the region finds them; each input's block kept, the output's at the block's
    perceptron; nothing owed, the waits recorded before the region at the levels the one call leaves them at. -/
def dats (_ : Fin 1) (c : Dev nD) : Dat τ (Elt F) (HIx 1) ℕ UU ℕ cfg1 c where
  A w := V c (Pipeline.arrRef spec1 w)
  after w t := match w with
    | ⟨0, _⟩ => iblk V c 0 t | ⟨1, _⟩ => iblk V c 1 t | ⟨2, _⟩ => iblk V c 2 t | ⟨3, _⟩ => iblk V c 3 t | ⟨4, _⟩ => iblk V c 4 t
    | ⟨5, _⟩ => oblk V c t
  Φ _ := iprop(emp)
  q _ := fullShare
  owed _ := 0
  recorded _ := {p | (K (F := F)).lev ((c : Thread nD τ), p.1) p.2 ≤ lvl1}

theorem A_eq (c : Dev nD) (w : Fin cfg1.W) : (dats V 0 c).A w = V c (Pipeline.arrRef spec1 w) := by dsimp only [dats]

theorem before_in (c : Dev nD) (t : Fin cfg1.N) :
    (∀ d, (dats V 0 c).before 0 t d = iblk V c 0 t) ∧ (∀ d, (dats V 0 c).before 1 t d = iblk V c 1 t)
      ∧ (∀ d, (dats V 0 c).before 2 t d = iblk V c 2 t) ∧ (∀ d, (dats V 0 c).before 3 t d = iblk V c 3 t)
      ∧ (∀ d, (dats V 0 c).before 4 t d = iblk V c 4 t) :=
  ⟨fun d => ((dats V 0 c).before_in_eq_fetched 0 rfl (fun _ => rfl) (fun _ _ _ => rfl) (fun _ => rfl) t d).trans rfl,
   fun d => ((dats V 0 c).before_in_eq_fetched 1 rfl (fun _ => rfl) (fun _ _ _ => rfl) (fun _ => rfl) t d).trans rfl,
   fun d => ((dats V 0 c).before_in_eq_fetched 2 rfl (fun _ => rfl) (fun _ _ _ => rfl) (fun _ => rfl) t d).trans rfl,
   fun d => ((dats V 0 c).before_in_eq_fetched 3 rfl (fun _ => rfl) (fun _ _ _ => rfl) (fun _ => rfl) t d).trans rfl,
   fun d => ((dats V 0 c).before_in_eq_fetched 4 rfl (fun _ => rfl) (fun _ _ _ => rfl) (fun _ => rfl) t d).trans rfl⟩

/-- The body's row of the table at a point is the body as the pipeline calls it there. -/
theorem defs₀_row (t : Fin cfg1.N) : defs₀ (F := F) .tc cfg1.body (cfg1.bodyArgs t (cfg1.slots t)) = bodyAt1 t := rfl

/-- The library's body obligation: the six staging buffers taken apart, the body run, the buffers put back. -/
theorem body_obligation [∀ e, Nonempty (Elt F e)] (c : Dev nD) : BodyObligation (dats V 0 c) (defs₀ (F := F)) 𝒱₀ none Set.univ := fun t => by
  rw [bigSep_W1, bigSep_W1, defs₀_row]
  obtain ⟨b0, b1, b2, b3, b4⟩ := before_in V c t
  iintro ⟨HΦ, HO, ⟨%d0, H0⟩, ⟨%d1, H1⟩, ⟨%d2, H2⟩, ⟨%d3, H3⟩, ⟨%d4, H4⟩, ⟨%d5, H5⟩⟩
  rw [b0, b1, b2, b3, b4]
  unfold bodyAt1
  iapply (bodyRun c (grid1.coords t) (st1_0 t) (hstage1_0 ((cfg1.slots t 0).cast nbuf1_0)) (st1_1 t) (hstage1_1 ((cfg1.slots t 1).cast nbuf1_1))
    (st1_2 t) (hstage1_2 ((cfg1.slots t 2).cast nbuf1_2)) (st1_3 t) (hstage1_3 ((cfg1.slots t 3).cast nbuf1_3))
    (st1_4 t) (hstage1_4 ((cfg1.slots t 4).cast nbuf1_4)) (st1_5 t) (hstage1_5 ((cfg1.slots t 5).cast nbuf1_5))
    (iblk V c 0 t) (iblk V c 1 t) (iblk V c 2 t) (iblk V c 3 t) (iblk V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  rw [show (dats V 0 c).Φ t.succ = (dats V 0 c).Φ t.castSucc from rfl,
    show (dats V 0 c).owesAt none t.succ = (dats V 0 c).owesAt none t.castSucc from rfl]
  isplitl [HΦ]; · iexact HΦ
  isplitl [HO]; · iexact HO
  isplitl [H0]; · iexact H0
  isplitl [H1]; · iexact H1
  isplitl [H2]; · iexact H2
  isplitl [H3]; · iexact H3
  isplitl [H4]; · iexact H4
  iexact H5

/-! ## The result array as one function of the arrays the region reads -/

/-- A row's place within its block of 1024. -/
def inBlk (i : S16384x91.Idx) : S1024x91.Idx := fun | 0 => ⟨(i 0).val % 1024, Nat.mod_lt _ (by decide)⟩ | 1 => i 1

/-- Where the rows of its block lie. -/
def blkRow (i : S16384x91.Idx) (j : S6x1024x128.Idx) : S6x16384x128.Idx :=
  fun | 0 => j 0 | 1 => ⟨1024 * ((i 0).val / 1024) + (j 1).val, by have h0 : (i 0).val < 16384 := (i 0).isLt; have h1 : (j 1).val < 1024 := (j 1).isLt; show _ < 16384; omega⟩ | 2 => j 2

/-- The result: each row's perceptron, computed in the block of 1024 rows that holds it. -/
def mlpAll (x : Vec F S6x16384x128 .f32) (w : Vec F S6x128x128 .f32) (bh : Vec F S1x128 .f32) (wo : Vec F S128x91 .f32) (bo : Vec F S1x91 .f32) :
    Vec F S16384x91 .f32 := fun i => mlp (fun j => x (blkRow i j)) w bh wo bo (inBlk i)

theorem idx0 : ∀ t : Fin cfg1.N, win1_0.index t (0 : Fin 3) = 0 ∧ win1_0.index t (1 : Fin 3) = t.val ∧ win1_0.index t (2 : Fin 3) = 0 :=
  (by decide +kernel : ∀ t : Fin grid1.N, _)
theorem idx1 : ∀ t : Fin cfg1.N, win1_1.index t (0 : Fin 3) = 0 ∧ win1_1.index t (1 : Fin 3) = 0 ∧ win1_1.index t (2 : Fin 3) = 0 :=
  (by decide +kernel : ∀ t : Fin grid1.N, _)
theorem idx2 : ∀ t : Fin cfg1.N, (win1_2.index t (0 : Fin 2) = 0 ∧ win1_2.index t (1 : Fin 2) = 0)
    ∧ (win1_3.index t (0 : Fin 2) = 0 ∧ win1_3.index t (1 : Fin 2) = 0) ∧ (win1_4.index t (0 : Fin 2) = 0 ∧ win1_4.index t (1 : Fin 2) = 0)
    ∧ (win1_5.index t (0 : Fin 2) = t.val ∧ win1_5.index t (1 : Fin 2) = 0) :=
  (by decide +kernel : ∀ t : Fin grid1.N, _)

/-- Where an index of a point's block of the rows and of the result lies in its array. -/
theorem emb0_val (t : Fin cfg1.N) (j : S6x1024x128.Idx) : ((((cfg1.win 0).blk t).view.emb j : S6x16384x128.Idx) 0).val = (j 0).val
    ∧ ((((cfg1.win 0).blk t).view.emb j : S6x16384x128.Idx) 1).val = 1024 * t.val + (j 1).val
    ∧ ((((cfg1.win 0).blk t).view.emb j : S6x16384x128.Idx) 2).val = (j 2).val := by
  obtain ⟨e0, e1, e2⟩ := idx0 t
  refine ⟨?_, ?_, ?_⟩
  · show win1_0.index t (0 : Fin 3) * 6 + 1 * (j 0).val = (j 0).val; omega
  · show win1_0.index t (1 : Fin 3) * 1024 + 1 * (j 1).val = 1024 * t.val + (j 1).val; omega
  · show win1_0.index t (2 : Fin 3) * 128 + 1 * (j 2).val = (j 2).val; omega

theorem emb5_val (t : Fin cfg1.N) (j : S1024x91.Idx) : ((((cfg1.win 5).blk t).view.emb j : S16384x91.Idx) 0).val = 1024 * t.val + (j 0).val
    ∧ ((((cfg1.win 5).blk t).view.emb j : S16384x91.Idx) 1).val = (j 1).val := by
  obtain ⟨-, -, -, e0, e1⟩ := idx2 t
  refine ⟨?_, ?_⟩
  · show win1_5.index t (0 : Fin 2) * 1024 + 1 * (j 0).val = 1024 * t.val + (j 0).val; omega
  · show win1_5.index t (1 : Fin 2) * 91 + 1 * (j 1).val = (j 1).val; omega

/-- The four inputs taken whole are their arrays at every point. -/
theorem iblk1_eq (c : Dev nD) (t : Fin cfg1.N) : iblk V c 1 t = V c main_v4 := by
  obtain ⟨e0, e1, e2⟩ := idx1 t
  funext j; show V c main_v4 (((cfg1.win 1).blk t).view.emb j) = V c main_v4 j
  refine congrArg (V c main_v4) (funext fun a => Fin.ext ?_)
  match a with
  | ⟨0, _⟩ => show win1_1.index t (0 : Fin 3) * 6 + 1 * (j 0).val = (j 0).val; omega
  | ⟨1, _⟩ => show win1_1.index t (1 : Fin 3) * 128 + 1 * (j 1).val = (j 1).val; omega
  | ⟨2, _⟩ => show win1_1.index t (2 : Fin 3) * 128 + 1 * (j 2).val = (j 2).val; omega
theorem iblk2_eq (c : Dev nD) (t : Fin cfg1.N) : iblk V c 2 t = V c main_v5 := by
  obtain ⟨⟨e0, e1⟩, -⟩ := idx2 t
  funext j; show V c main_v5 (((cfg1.win 2).blk t).view.emb j) = V c main_v5 j
  refine congrArg (V c main_v5) (funext fun a => Fin.ext ?_)
  match a with
  | ⟨0, _⟩ => show win1_2.index t (0 : Fin 2) * 1 + 1 * (j 0).val = (j 0).val; omega
  | ⟨1, _⟩ => show win1_2.index t (1 : Fin 2) * 128 + 1 * (j 1).val = (j 1).val; omega
theorem iblk3_eq (c : Dev nD) (t : Fin cfg1.N) : iblk V c 3 t = V c main_arg4 := by
  obtain ⟨-, ⟨e0, e1⟩, -⟩ := idx2 t
  funext j; show V c main_arg4 (((cfg1.win 3).blk t).view.emb j) = V c main_arg4 j
  refine congrArg (V c main_arg4) (funext fun a => Fin.ext ?_)
  match a with
  | ⟨0, _⟩ => show win1_3.index t (0 : Fin 2) * 128 + 1 * (j 0).val = (j 0).val; omega
  | ⟨1, _⟩ => show win1_3.index t (1 : Fin 2) * 91 + 1 * (j 1).val = (j 1).val; omega
theorem iblk4_eq (c : Dev nD) (t : Fin cfg1.N) : iblk V c 4 t = V c main_v6 := by
  obtain ⟨-, -, ⟨e0, e1⟩, -⟩ := idx2 t
  funext j; show V c main_v6 (((cfg1.win 4).blk t).view.emb j) = V c main_v6 j
  refine congrArg (V c main_v6) (funext fun a => Fin.ext ?_)
  match a with
  | ⟨0, _⟩ => show win1_4.index t (0 : Fin 2) * 1 + 1 * (j 0).val = (j 0).val; omega
  | ⟨1, _⟩ => show win1_4.index t (1 : Fin 2) * 91 + 1 * (j 1).val = (j 1).val; omega

abbrev resultOf (c : Dev nD) : Vec F S16384x91 .f32 :=
  mlpAll (V c main_v3) (V c main_v4) (V c main_v5) (V c main_arg4) (V c main_v6)

/-- What a point writes back is its block of the result. -/
theorem flushed5_eq (c : Dev nD) (t : Fin cfg1.N) :
    (dats V 0 c).flushed 5 t = ((cfg1.win 5).blk t).view.read (Elt F) (resultOf V c) := by
  funext j
  show oblk V c t j = resultOf V c (((cfg1.win 5).blk t).view.emb j)
  obtain ⟨e0, e1⟩ := emb5_val t j
  have hj : (j 0).val < 1024 := (j 0).isLt
  unfold oblk resultOf mlpAll
  rw [iblk1_eq, iblk2_eq, iblk3_eq, iblk4_eq]
  have hx : iblk V c 0 t = fun j' : S6x1024x128.Idx => V c main_v3 (blkRow (((cfg1.win 5).blk t).view.emb j) j') := by
    funext j'
    show V c main_v3 (((cfg1.win 0).blk t).view.emb j') = _
    obtain ⟨f0, f1, f2⟩ := emb0_val t j'
    refine congrArg (V c main_v3) (funext fun a => Fin.ext ?_)
    match a with
    | ⟨0, _⟩ => exact f0
    | ⟨1, _⟩ => refine f1.trans ?_; show _ = 1024 * (_ / 1024) + (j' 1).val; rw [e0]; omega
    | ⟨2, _⟩ => exact f2
  rw [hx]
  refine congrArg (mlp _ _ _ _ _) (funext fun a => Fin.ext ?_)
  match a with
  | ⟨0, _⟩ => show (j 0).val = _ % 1024; rw [e0]; omega
  | ⟨1, _⟩ => exact e1.symm

/-- Every index of the result is in its block. -/
theorem covered5 (i : S16384x91.Idx) : ∃ t : Fin cfg1.N, (cfg1.win 5).flush t = true ∧ i ∈ ((cfg1.win 5).blk t).view.set := by
  have hi : (i 0).val < 16384 := (i 0).isLt
  have ht : (i 0).val / 1024 < cfg1.N := by rw [show cfg1.N = 16 from N_1]; omega
  refine ⟨⟨(i 0).val / 1024, ht⟩, flush1_5 _, ?_⟩
  have h := ((cfg1.win 5).blk ⟨(i 0).val / 1024, ht⟩).view.emb_mem_set (inBlk i)
  obtain ⟨e0, e1⟩ := emb5_val ⟨(i 0).val / 1024, ht⟩ (inBlk i)
  rwa [show ((cfg1.win 5).blk ⟨(i 0).val / 1024, ht⟩).view.emb (inBlk i) = i from funext fun a => Fin.ext (by
    match a with
    | ⟨0, _⟩ => refine e0.trans ?_; show 1024 * ((i 0).val / 1024) + (i 0).val % 1024 = (i 0).val; omega
    | ⟨1, _⟩ => exact e1)] at h

theorem final5 (c : Dev nD) : (dats V 0 c).arrAt 5 cfg1.N = resultOf V c :=
  (dats V 0 c).arrAt_eq_of_cover 5 (resultOf V c) (fun t _ => flushed5_eq V c t) covered5

/-! ## The region's step -/

abbrev EP : Emb UP (MT nD τ sig (HIx 1) (Elt F) ℕ UU ℕ) := (Emb.inl : Emb UP (UP × Counters)).trans embR
instance EP_landsIn : (EP (F := F) : Emb UP 𝕄).LandsIn (upEmb : UEmb _ 𝕄) := by unfold EP; infer_instance

/-- The prefetched tables' admissible contents: no table. -/
abbrev adm : (p : Fin 1) → (pcfgs (F := F) p).Adm := fun p => (cfgs p).toPCfg_adm

/-- What the TensorCore owes at the region: nothing, its recorded waits at the levels of the call before. -/
abbrev owesLow (c : Dev nD) : sProp 𝕄 :=
  iprop(∃ W, ⌜(K (F := F)).WBelow (c : Thread nD τ) W lvl1⌝ ∗ owes (c : Thread nD τ) (0 : CellTallies nD τ sig (HIx 1)) W)

theorem owesAt_iff [∀ e, Nonempty (Elt F e)] (c : Dev nD) (t : Fin (cfg1.N + 1)) : ((dats V 0 c).owesAt none t : sProp 𝕄) = owesLow (F := F) c := by
  refine BI.equiv_iff.mp ⟨?_, ?_⟩ <;> unfold Dat.owesAt Pipeline.owesWithin owesLow
  · show (_ : sProp 𝕄) ⊢ _
    iintro ⟨%W, %h, HO⟩
    iexists W
    isplitr
    · ipureintro
      intro p hp
      rcases h hp with hr | ⟨w, s, e⟩
      · exact hr
      · rw [show p.2 = none from congrArg Prod.snd e]; exact Nat.zero_le _
    iexact HO
  · show (_ : sProp 𝕄) ⊢ _
    iintro ⟨%W, %h, HO⟩
    iexists W
    isplitr
    · ipureintro
      exact fun p hp => Or.inl (h p hp)
    iexact HO

set_option backward.isDefEq.respectTransparency.types false in
/-- The region: entered with every unscoped buffer at `V` and nothing owed, left with the result at its value, its
    other operands and every other buffer as they were. -/
def reg [∀ e, Nonempty (Elt F e)] : Pipeline.RegionSeg (pcfgs (F := F)) adm (dats V) none defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation V c).loose
  hwaits := Pipeline.hwaits_of_owed_zero _ _ _ _ (K (F := F)).L (K (F := F)).lev 0 fun _ _ => rfl
  pre c := iprop(unscopedBufs c (V c) ∗ owesLow (F := F) c)
  post c := iprop((((c : Thread nD τ).loc main_v7) ↦{fullShare} resultOf V c) ∗ (((c : Thread nD τ).loc main_arg4) ↦{fullShare} V c main_arg4)
    ∗ Pipeline.unscopedRest spec1 c (V c) ∗ owesLow (F := F) c)
  X _ := iprop(emp)
  Y _ := iprop(emp)
  Z c := Pipeline.unscopedRest spec1 c (V c)
  hentry c := by
    have hsplit := Pipeline.arrays_of_unscopedBufs (pcfgs (F := F)) adm (dats V) launch1.win launch1.arr_whole c
      ((dats V 0 c).share_full fun _ => rfl) (V c) (A_eq V c)
    rw [← owesAt_iff V c 0]
    iintro ⟨⟨Hub, HO⟩, -, -⟩
    ihave H := hsplit $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]; · iexact HO
    isplitr; · iempintro
    iexact Hr
  hin c := by
    rw [show (dats V 0 c).Φ 0 = iprop(emp) from rfl]
    iintro ⟨-, -, -⟩
    iempintro
  hout c := by
    rw [Pipeline.ownSems0_none, show (Pipeline.scopedRest (Pipeline.pin (pcfgs (F := F)) adm 0).spec c : sProp 𝕄) = iprop(emp) from scopedRest1_eq c]
    iintro -
    isplitr; · iempintro
    isplitr; · iempintro
    iempintro
  hexit c := by
    rw [Pipeline.arrays_eq (Pipeline.pin (pcfgs (F := F)) adm) (dats V) 0 c launch1.arr_whole ((dats V 0 c).share_full fun _ => rfl), bigSep_W1, final5 V c,
      (dats V 0 c).arrAt_in 3 rfl, owesAt_iff V c]
    iintro ⟨⟨-, -, -, H3, -, H5⟩, HO, -, HZ⟩
    imodintro
    isplitl [H5]; · iexact H5
    isplitl [H3]; · iexact H3
    isplitl [HZ]; · iexact HZ
    iexact HO

set_option backward.isDefEq.respectTransparency.types false in
/-- The region's step under the table of the kernels and their pipelines. -/
theorem wp_entry [∀ e, Nonempty (Elt F e)] (c : Dev nD) (Φ : PUnit → sProp 𝕄) :
    iprop((iprop(boundary (c : Thread nD τ) ∗ (reg V).post c) -∗ wp frame (wpE (D (F := F)) 𝒱 (c : Thread nD τ) none) Set.univ (.ret ⟨⟩) Φ)
        ∗ boundary (c : Thread nD τ) ∗ (reg V).pre c ∗ levAts (K (F := F)).L (K (F := F)).lev
        ∗ Pipeline.cellsGhost (Pipeline.pin (pcfgs (F := F)) adm) (EP (F := F)) 0 c ∗ Pipeline.toksInit (Pipeline.pin (pcfgs (F := F)) adm) (EP (F := F)) 0 c)
      ⊢ wp frame (wpE (D (F := F)) 𝒱 (c : Thread nD τ) none) Set.univ
          (.op (.customCall (Pipeline.entry 0) ()) .ret : Prog (TpuEff nD τ sig (Elt F) (ΛP (F := F)) .tc) PUnit) Φ :=
  Pipeline.RegionSeg.wp (pcfgs (F := F)) adm (dats V) none cellOf_inj EP defs₀ 𝒱₀ (K (F := F)).L (K (F := F)).lev (reg V) c none
    (fun _ h => nomatch h) .ret Φ

/-- The main program's statement is the region's, lifted to the table that also holds the SparseCore calls. -/
theorem entry_lift : (Prog.lift (.customCall (SparseCore.inner (Pipeline.entry 0)) ()) : Prog (TpuEff nD τ sig (Elt F) (SparseCore.Sig (ΛP (F := F)) 1) .tc) PUnit)
    = SparseCore.liftProg (.op (.customCall (Pipeline.entry 0) ()) .ret : Prog (TpuEff nD τ sig (Elt F) (ΛP (F := F)) .tc) PUnit) := rfl

/-- The region as the main program runs it, on the TensorCore under the extended body table. -/
theorem wp_region [∀ e, Nonempty (Elt F e)] (c : Dev nD) (Φ : PUnit → sProp 𝕄) :
    iprop(boundary (c : Thread nD τ) ∗ (reg V).pre c ∗ levAts (K (F := F)).L (K (F := F)).lev
        ∗ Pipeline.cellsGhost (Pipeline.pin (pcfgs (F := F)) adm) (EP (F := F)) 0 c ∗ Pipeline.toksInit (Pipeline.pin (pcfgs (F := F)) adm) (EP (F := F)) 0 c
        ∗ (iprop(boundary (c : Thread nD τ) ∗ (reg V).post c) -∗ Φ ⟨⟩))
      ⊢ wp frame (wpE ((K (F := F)).defs D) 𝒱 (c : Thread nD τ) none) Set.univ
          (Prog.lift (.customCall (SparseCore.inner (Pipeline.entry 0)) ()) : Prog (TpuEff nD τ sig (Elt F) (SparseCore.Sig (ΛP (F := F)) 1) .tc) PUnit) Φ := by
  rw [entry_lift]
  refine BI.Entails.trans ?_ ((K (F := F)).wp_liftProg D 𝒱 (c : Thread nD τ) Set.univ none _ Φ)
  refine BI.Entails.trans ?_ (wp_entry V c Φ)
  show (_ : sProp 𝕄) ⊢ _
  iintro ⟨Hb, Hp, Hl, Hg, Ht, Hk⟩
  isplitl [Hk]
  · iintro H
    ihave H := Hk $$ H
    rw [wp_ret]; imodintro
    iexact H
  isplitl [Hb]; · iexact Hb
  isplitl [Hp]; · iexact Hp
  isplitl [Hl]; · iexact Hl
  isplitl [Hg]; · iexact Hg
  iexact Ht

end Region

end Cert.Proof.Lookup
-- ==== Proof.Run.lean ====
/-
  The whole program: the TensorCore's line of statements from the launch to its end, the launch, and what every final
  memory holds — the result as one function of the launch memory, the arguments as they were.
-/
module

public import proofs.«01_k».proof.Proof.Obl
public import proofs.«01_k».proof.Proof.Region
public import Idealize.ShloMosaic.Lib.SparseCore.Quiescent
public import Idealize.ShloMosaic.Lib.Pipeline.Frame

@[expose] public section

noncomputable section

namespace Cert.Proof.Lookup

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.ShloMosaic.StableHlo (held after seq)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The launch -/

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide, fun _ => rfl⟩

/-- The region's ghost state on a device: its staging cells' and its tokens. -/
def ghost (d : Dev nD) : sProp 𝕄 :=
  iprop(Pipeline.cellsGhost (Pipeline.pin (pcfgs (F := F)) adm) (EP (F := F)) 0 d ∗ Pipeline.toksInit (Pipeline.pin (pcfgs (F := F)) adm) (EP (F := F)) 0 d)

/-- The launch's ghost element: the handshakes', the region's, and no counter. -/
def u₀ : UU := (initOf (K (F := F)).hsCells (K (F := F)).hsToks,
  (initOf (Pipeline.cells (nD := nD) (τ := τ) (Pipeline.pin (pcfgs (F := F)) adm) cellOf_inj) (Pipeline.launchToks (nD := nD) (τ := τ) (Pipeline.pin (pcfgs (F := F)) adm) cellOf_inj), 1))

variable (m : (ℓ : Loc nD τ sig) → Buf (Elt F) ℓ) (ρ : Dev nD → PrngReg)

omit [FloatOps F] in
/-- Nothing, at every index, is nothing. -/
theorem bigSep_none {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => ghost (F := F) d)
        ∗ bigSep Finset.univ fun thr : Thread nD τ => bigSep Finset.univ fun q : Fin 1 => (P (F := F) m).x q thr) := by
  have hg : (bigSep Finset.univ fun d : Dev nD => ghost (F := F) d)
      = iprop((bigSep Finset.univ fun c : Dev nD => bigSep Finset.univ fun p => Pipeline.cellsGhost (Pipeline.pin (pcfgs (F := F)) adm) (EP (F := F)) p c)
          ∗ (bigSep Finset.univ fun c : Dev nD => bigSep Finset.univ fun p => (Pipeline.toksInit (Pipeline.pin (pcfgs (F := F)) adm) (EP (F := F)) p c : sProp 𝕄))) := by
    unfold ghost
    rw [bigSep_sep']
    simp only [bigSep_univ_of_subsingleton (0 : Fin 1)]
  unfold u₀
  iintro Hu
  ihave H := (ownU_pair (initOf (K (F := F)).hsCells (K (F := F)).hsToks) _) $$ Hu
  icases H with ⟨HH, HR⟩
  ihave H := (own_pair_emb (embR : Emb (UP × Counters) 𝕄) _ (1 : Counters)) $$ HR
  icases H with ⟨HP, -⟩
  imod (Pipeline.fund_ghost (Pipeline.pin (pcfgs (F := F)) adm) (EP (F := F)) cellOf_inj) $$ HP with HG
  imodintro
  isplitl [HH]; · iexact HH
  isplitl [HG]
  · rw [hg]; iexact HG
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_none]
  iempintro

/-! ## The buffers along the line -/

abbrev opT : HloOp τ sig (Elt F) := StableHlo.unary main_arg0 main_v0 ((transpose S6x16384 [1, 0] · transposes_S16384x6_S6x16384_1_0) : (⟨S16384x6, .i32⟩ : BufTy).Contents (Elt F) → (⟨S6x16384, .i32⟩ : BufTy).Contents (Elt F))
abbrev op1 : HloOp τ sig (Elt F) := StableHlo.reshape main_v0 main_v1 (rfl : (.i32 : EltTy) = .i32) shapeCasts_S6x16384_S98304
abbrev op3 : HloOp τ sig (Elt F) := StableHlo.reshape main_v2 main_v3 (rfl : (.f32 : EltTy) = .f32) shapeCasts_S98304x128_S6x16384x128
abbrev op4 : HloOp τ sig (Elt F) := StableHlo.reshape main_arg2 main_v4 (rfl : (.f32 : EltTy) = .f32) shapeCasts_S768x128_S6x128x128
abbrev op5 : HloOp τ sig (Elt F) := StableHlo.reshape main_arg3 main_v5 (rfl : (.f32 : EltTy) = .f32) shapeCasts_S128_S1x128
abbrev op6 : HloOp τ sig (Elt F) := StableHlo.reshape main_arg5 main_v6 (rfl : (.f32 : EltTy) = .f32) shapeCasts_S91_S1x91

/-- The operations before the lookup, and those between the lookup and the region. -/
def before : List (HloOp τ sig (Elt F)) := [opT, op1]
def between : List (HloOp τ sig (Elt F)) := [op3, op4, op5, op6]

theorem main_line (d : Dev nD) : main (F := F) d = (seq before >>= fun _ => sc.run d 0 >>= fun _ => seq between >>= fun _ =>
    (Prog.lift (.customCall (SparseCore.inner (Pipeline.entry 0)) ()) : Prog (TpuEff nD τ sig (Elt F) (SparseCore.Sig (ΛP (F := F)) 1) .tc) PUnit) >>= fun _ => pure ⟨⟩) := rfl

/-- The buffers at the launch, when the lookup starts, when it ends, and when the region starts. -/
def W₀ (d : Dev nD) : Valuation τ sig (Elt F) := fun b => m (d, b)
def W₁ (d : Dev nD) : Valuation τ sig (Elt F) := after before (W₀ m d)
def W₂ (d : Dev nD) : Valuation τ sig (Elt F) := Function.update (W₁ m d) (Proc.devRef .tc main_v2) (looked m d)
def W₃ (d : Dev nD) : Valuation τ sig (Elt F) := after between (W₂ m d)

/-- The same as the region reads them. -/
def VR (d : Dev nD) (b : Ref sig .tc) : Buf (Elt F) ((d : Thread nD τ).loc b) := W₃ m d (Proc.devRef .tc b)

theorem W₁_v1 (d : Dev nD) : W₁ m d (Proc.devRef .tc main_v1) = flat m d := by
  unfold W₁ before
  after_results
  rfl

theorem W₁_keep (d : Dev nD) (r : Ref sig .tc) (h : r ∉ [main_v0, main_v1]) : W₁ m d (Proc.devRef .tc r) = m ((d : Thread nD τ).loc r) :=
  StableHlo.after_of_writes_sub (W := [main_v0, main_v1]) before (W₀ m d) (by unfold before; simp [List.Forall]) h

theorem W₂_keep (d : Dev nD) (r : Ref sig .tc) (h : r ≠ main_v2) : W₂ m d (Proc.devRef .tc r) = W₁ m d (Proc.devRef .tc r) :=
  Function.update_of_ne (StableHlo.devRef_ne_of_ne h) _ _

theorem W₂_v2 (d : Dev nD) : W₂ m d (Proc.devRef .tc main_v2) = looked m d := Function.update_self _ _ _

theorem W₃_keep (d : Dev nD) (r : Ref sig .tc) (h : r ∉ [main_v3, main_v4, main_v5, main_v6]) : W₃ m d (Proc.devRef .tc r) = W₂ m d (Proc.devRef .tc r) :=
  StableHlo.after_of_writes_sub (W := [main_v3, main_v4, main_v5, main_v6]) between (W₂ m d) (by unfold between; simp [List.Forall]) h

/-- A buffer nothing writes before the region is as at the launch. -/
theorem VR_keep (d : Dev nD) (r : Ref sig .tc) (h3 : r ∉ [main_v3, main_v4, main_v5, main_v6]) (h2 : r ≠ main_v2) (h1 : r ∉ [main_v0, main_v1]) :
    VR m d r = m ((d : Thread nD τ).loc r) := (W₃_keep m d r h3).trans ((W₂_keep m d r h2).trans (W₁_keep m d r h1))

/-- The region's operands. -/
def rows (d : Dev nD) : Vec F S6x16384x128 .f32 := shapeCast S6x16384x128 (looked m d : Vec F S98304x128 .f32) shapeCasts_S98304x128_S6x16384x128
def wh (d : Dev nD) : Vec F S6x128x128 .f32 := shapeCast S6x128x128 (m ((d : Thread nD τ).loc main_arg2) : Vec F S768x128 .f32) shapeCasts_S768x128_S6x128x128
def bh (d : Dev nD) : Vec F S1x128 .f32 := shapeCast S1x128 (m ((d : Thread nD τ).loc main_arg3) : Vec F S128 .f32) shapeCasts_S128_S1x128
def wo (d : Dev nD) : Vec F S128x91 .f32 := m ((d : Thread nD τ).loc main_arg4)
def bo (d : Dev nD) : Vec F S1x91 .f32 := shapeCast S1x91 (m ((d : Thread nD τ).loc main_arg5) : Vec F S91 .f32) shapeCasts_S91_S1x91

theorem VR_v3 (d : Dev nD) : VR m d main_v3 = rows m d := by
  unfold VR W₃ between
  after_results
  rw [W₂_v2]; rfl

theorem VR_v4 (d : Dev nD) : VR m d main_v4 = wh m d := by
  unfold VR W₃ between
  after_results
  rw [W₂_keep m d main_arg2 (by decide), W₁_keep m d main_arg2 (by decide)]; rfl

theorem VR_v5 (d : Dev nD) : VR m d main_v5 = bh m d := by
  unfold VR W₃ between
  after_results
  rw [W₂_keep m d main_arg3 (by decide), W₁_keep m d main_arg3 (by decide)]; rfl

theorem VR_v6 (d : Dev nD) : VR m d main_v6 = bo m d := by
  unfold VR W₃ between
  after_results
  rw [W₂_keep m d main_arg5 (by decide), W₁_keep m d main_arg5 (by decide)]; rfl

/-- The program's result as a function of the launch memory. -/
def result (d : Dev nD) : Buf (Elt F) ((d : Thread nD τ).loc main_v7) := mlpAll (rows m d) (wh m d) (bh m d) (wo m d) (bo m d)

theorem resultOf_eq (d : Dev nD) : resultOf (VR m) d = result m d := by
  unfold resultOf result
  rw [VR_v3, VR_v4, VR_v5, VR_v6, VR_keep m d main_arg4 (by decide) (by decide) (by decide)]; rfl

/-! ## The TensorCore's line -/

/-- The lookup's three arrays among the buffers the TensorCore holds. -/
def three : Finset (DevRef τ sig) := {Proc.devRef .tc main_v1, Proc.devRef .tc main_arg1, Proc.devRef .tc main_v2}

theorem three_sub : three ⊆ Pipeline.ucRefs τ sig := by decide

theorem three_eq (d : Dev nD) (W : Valuation τ sig (Elt F)) : (held (d.tc : Thread nD τ) three W : sProp 𝕄)
    = iprop((iLoc d ↦{fullShare} W (Proc.devRef .tc main_v1)) ∗ (xLoc d ↦{fullShare} W (Proc.devRef .tc main_arg1)) ∗ oLoc d ↦{fullShare} W (Proc.devRef .tc main_v2)) := by
  unfold held three
  rw [SparseCore.bigSep_insert' (by decide), SparseCore.bigSep_insert' (by decide), bigSep_singleton]

/-- The launch memory's buffers taken apart where the lookup starts, and put together where it ends. -/
theorem lookup_in (d : Dev nD) : (held (d.tc : Thread nD τ) (Pipeline.ucRefs τ sig) (W₁ m d) : sProp 𝕄)
    = iprop(((iLoc d ↦{fullShare} flat m d) ∗ (xLoc d ↦{fullShare} m (xLoc d)) ∗ oLoc d ↦{fullShare} m (oLoc d))
        ∗ held (d.tc : Thread nD τ) (Pipeline.ucRefs τ sig \ three) (W₁ m d)) := by
  rw [StableHlo.held_sub_split _ three_sub, three_eq, W₁_v1, W₁_keep m d main_arg1 (by decide), W₁_keep m d main_v2 (by decide)]

theorem lookup_out (d : Dev nD) : (held (d.tc : Thread nD τ) (Pipeline.ucRefs τ sig) (W₂ m d) : sProp 𝕄)
    = iprop(((iLoc d ↦{fullShare} flat m d) ∗ (xLoc d ↦{fullShare} m (xLoc d)) ∗ oLoc d ↦{fullShare} looked m d)
        ∗ held (d.tc : Thread nD τ) (Pipeline.ucRefs τ sig \ three) (W₁ m d)) := by
  rw [StableHlo.held_sub_split _ three_sub, three_eq, W₂_v2, W₂_keep m d main_v1 (by decide), W₂_keep m d main_arg1 (by decide), W₁_v1,
    W₁_keep m d main_arg1 (by decide)]
  exact congrArg (fun R : sProp 𝕄 => iprop(((iLoc d ↦{fullShare} flat m d) ∗ (xLoc d ↦{fullShare} m (xLoc d)) ∗ oLoc d ↦{fullShare} looked m d) ∗ R))
    (StableHlo.held_congr _ fun b hb => Function.update_of_ne (fun e => (Finset.mem_sdiff.mp hb).2 (by subst e; decide)) _ _)

/-- The call's operands and its results are the three arrays whole. -/
theorem st_eq (d : Dev nD) : (bigSep Finset.univ fun c : Fin ((K (F := F)).nCore 0) => (P m).st 0 d c)
    = iprop((iLoc d ↦{fullShare} flat m d) ∗ (xLoc d ↦{fullShare} m (xLoc d)) ∗ oLoc d ↦{fullShare} m (oLoc d)) := cores_eq m d (m (oLoc d))

theorem dn_eq (d : Dev nD) : (bigSep Finset.univ fun c : Fin ((K (F := F)).nCore 0) => (P m).dn 0 d c)
    = iprop((iLoc d ↦{fullShare} flat m d) ∗ (xLoc d ↦{fullShare} m (xLoc d)) ∗ oLoc d ↦{fullShare} looked m d) := cores_eq m d (looked m d)

/-- After its one call the TensorCore owes nothing, and what it waited for lies at the call's levels. -/
theorem owes_after (d : Dev nD) : ((K (F := F)).tcSt EH d 1 : sProp 𝕄) ⊢ iprop(owesLow (F := F) d ∗ (owesLow (F := F) d -∗ (K (F := F)).tcSt EH d 1)) := by
  have hO : (K (F := F)).Otc d 1 = (0 : CellTallies nD τ sig (HIx 1)) := by
    unfold SparseCore.Cfg.Otc; simp
  unfold SparseCore.Cfg.tcSt
  rw [hO]
  iintro ⟨HO, HR⟩
  isplitl [HO]; · iexact HO
  iintro HO
  isplitl [HO]; · iexact HO
  iexact HR

/-- What the line leaves: the result and the arguments. -/
def FIN (d : Dev nD) : sProp 𝕄 :=
  iprop((((d : Thread nD τ).loc main_v7) ↦{fullShare} result m d)
    ∗ (((d : Thread nD τ).loc main_arg0) ↦{fullShare} m ((d : Thread nD τ).loc main_arg0)) ∗ (((d : Thread nD τ).loc main_arg1) ↦{fullShare} m ((d : Thread nD τ).loc main_arg1))
    ∗ (((d : Thread nD τ).loc main_arg2) ↦{fullShare} m ((d : Thread nD τ).loc main_arg2)) ∗ (((d : Thread nD τ).loc main_arg3) ↦{fullShare} m ((d : Thread nD τ).loc main_arg3))
    ∗ (((d : Thread nD τ).loc main_arg4) ↦{fullShare} m ((d : Thread nD τ).loc main_arg4)) ∗ (((d : Thread nD τ).loc main_arg5) ↦{fullShare} m ((d : Thread nD τ).loc main_arg5)))

/-- The buffers where the region starts are what it takes. -/
theorem pre_of_held [∀ e, Nonempty (Elt F e)] (d : Dev nD) :
    iprop(held (d.tc : Thread nD τ) (Pipeline.ucRefs τ sig) (after between (W₂ m d)) ∗ owesLow (F := F) d) ⊢ (reg (VR m)).pre d := by
  show _ ⊢ iprop(unscopedBufs d (VR m d) ∗ owesLow (F := F) d)
  rw [show unscopedBufs d (VR m d) = (held (d.tc : Thread nD τ) (Pipeline.ucRefs τ sig) (W₃ m d) : sProp 𝕄) from Pipeline.unscopedBufs_held d (W₃ m d)]
  exact BI.Entails.refl _

theorem fin_of_post [∀ e, Nonempty (Elt F e)] (d : Dev nD) : (reg (VR m)).post d ⊢ iprop(FIN m d ∗ owesLow (F := F) d) := by
  show iprop((((d : Thread nD τ).loc main_v7) ↦{fullShare} resultOf (VR m) d) ∗ (((d : Thread nD τ).loc main_arg4) ↦{fullShare} VR m d main_arg4)
    ∗ Pipeline.unscopedRest spec1 d (VR m d) ∗ owesLow (F := F) d) ⊢ _
  rw [unscopedRest1_eq d (VR m d), resultOf_eq, VR_keep m d main_arg0 (by decide) (by decide) (by decide), VR_keep m d main_arg1 (by decide) (by decide) (by decide),
    VR_keep m d main_arg2 (by decide) (by decide) (by decide), VR_keep m d main_arg3 (by decide) (by decide) (by decide),
    VR_keep m d main_arg4 (by decide) (by decide) (by decide), VR_keep m d main_arg5 (by decide) (by decide) (by decide)]
  unfold FIN
  iintro ⟨H7, H4, ⟨H0, H1, H2, H3, H5, -, -, -⟩, HO⟩
  isplitr [HO]
  · isplitl [H7]; · iexact H7
    isplitl [H0]; · iexact H0
    isplitl [H1]; · iexact H1
    isplitl [H2]; · iexact H2
    isplitl [H3]; · iexact H3
    isplitl [H4]; · iexact H4
    iexact H5
  iexact HO

theorem sub_of_before : ∀ op ∈ (before : List (HloOp τ sig (Elt F))), op.bufs ⊆ Pipeline.ucRefs τ sig := by
  intro op h
  refine Pipeline.sub_ucRefs op ?_
  simp only [before, List.mem_cons, List.not_mem_nil, or_false] at h
  rcases h with rfl | rfl <;> simp

theorem sub_of_between : ∀ op ∈ (between : List (HloOp τ sig (Elt F))), op.bufs ⊆ Pipeline.ucRefs τ sig := by
  intro op h
  refine Pipeline.sub_ucRefs op ?_
  simp only [between, List.mem_cons, List.not_mem_nil, or_false] at h
  rcases h with rfl | rfl | rfl | rfl <;> simp

theorem fresh_before : ∀ op ∈ (before : List (HloOp τ sig (Elt F))), op.fresh = ∅ := by
  intro op h
  simp only [before, List.mem_cons, List.not_mem_nil, or_false] at h
  rcases h with rfl | rfl <;> rfl

theorem fresh_between : ∀ op ∈ (between : List (HloOp τ sig (Elt F))), op.fresh = ∅ := by
  intro op h
  simp only [between, List.mem_cons, List.not_mem_nil, or_false] at h
  rcases h with rfl | rfl | rfl | rfl <;> rfl

theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ ghost (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd ghost
  rw [main_line, show unscopedBufs d (fun b => m ((SparseCore.T d).loc b)) = (held (d.tc : Thread nD τ) (Pipeline.ucRefs τ sig) (W₀ m d) : sProp 𝕄) from
    Pipeline.unscopedBufs_held d (W₀ m d)]
  iintro ⟨#Hctx, Hst, ⟨Hb, Hbufs, Hts, -⟩, ⟨Hcg, Htk⟩⟩
  iapply (StableHlo.wp_seq (defs := (K (F := F)).defs (D (F := F))) (𝒱 := 𝒱) (bd := none) (E := Set.univ) d (Pipeline.ucRefs τ sig) _ before sub_of_before fresh_before (W₀ m d)) $$ [Hb Hbufs]
  · isplitl [Hb]; · iexact Hb
    iexact Hbufs
  iintro ⟨Hb, Hbufs⟩
  ihave H := (Entails.of_eq ((show held (d.tc : Thread nD τ) (Pipeline.ucRefs τ sig) (after before (W₀ m d)) = (held (d.tc : Thread nD τ) (Pipeline.ucRefs τ sig) (W₁ m d) : sProp 𝕄) from rfl).trans (lookup_in m d))) $$ Hbufs
  icases H with ⟨Hops, Hrest⟩
  rw [wp_bind]
  iapply ((K (F := F)).wp_run (D (F := F)) 𝒱 (EH := EH) (P := P m) κ d 0) $$ [Hst Hops Hb Hrest Hts Hcg Htk]
  isplitr; · iexact Hctx
  isplitl [Hst]; · iexact Hst
  isplitl [Hops]
  · rw [st_eq]; iexact Hops
  iintro ⟨Hst, Hdn⟩
  ihave Hres := (Entails.of_eq (dn_eq m d)) $$ Hdn
  ihave Hbufs := (Entails.of_eq (lookup_out m d).symm) $$ [Hres Hrest]
  · isplitl [Hres]; · iexact Hres
    iexact Hrest
  iapply (StableHlo.wp_seq (defs := (K (F := F)).defs (D (F := F))) (𝒱 := 𝒱) (bd := none) (E := Set.univ) d (Pipeline.ucRefs τ sig) _ between sub_of_between fresh_between (W₂ m d)) $$ [Hb Hbufs]
  · isplitl [Hb]; · iexact Hb
    iexact Hbufs
  iintro ⟨Hb, Hbufs⟩
  ihave H := ((show ((K (F := F)).tcSt EH d ((0 : Fin 1).val + 1) : sProp 𝕄) ⊢ (K (F := F)).tcSt EH d 1 from BI.Entails.refl _).trans (owes_after (F := F) d)) $$ Hst
  icases H with ⟨HO, Hst⟩
  ihave Hlev := (SparseCore.Cfg.ctx_levAts (K := K (F := F)) (EH := EH) (P := P m) κ) $$ Hctx
  rw [wp_bind]
  iapply (wp_region (VR m) d) $$ [Hb Hbufs HO Hlev Hcg Htk Hst Hts]
  isplitl [Hb]; · iexact Hb
  isplitl [Hbufs HO]
  · iapply (pre_of_held m d)
    isplitl [Hbufs]; · iexact Hbufs
    iexact HO
  isplitl [Hlev]; · iexact Hlev
  isplitl [Hcg]; · iexact Hcg
  isplitl [Htk]; · iexact Htk
  iintro ⟨Hb, Hpost⟩
  ihave H := (fin_of_post m d) $$ Hpost
  icases H with ⟨HF, HO⟩
  ihave Hst := Hst $$ HO
  rw [wp_pure]
  imodintro
  isplitl [Hst]; · iexact Hst
  isplitl [HF]; · iexact HF
  isplitl [Hb]; · iexact Hb
  iexact Hts

/-! ## The final memory -/

/-- The result's value, the arguments' too, on a device. -/
def fq (d : Dev nD) (s : Phys nD τ sig (Elt F)) : Prop :=
  s.mem.mem ((d : Thread nD τ).loc main_v7) = result m d
  ∧ s.mem.mem ((d : Thread nD τ).loc main_arg0) = m ((d : Thread nD τ).loc main_arg0) ∧ s.mem.mem ((d : Thread nD τ).loc main_arg1) = m ((d : Thread nD τ).loc main_arg1)
  ∧ s.mem.mem ((d : Thread nD τ).loc main_arg2) = m ((d : Thread nD τ).loc main_arg2) ∧ s.mem.mem ((d : Thread nD τ).loc main_arg3) = m ((d : Thread nD τ).loc main_arg3)
  ∧ s.mem.mem ((d : Thread nD τ).loc main_arg4) = m ((d : Thread nD τ).loc main_arg4) ∧ s.mem.mem ((d : Thread nD τ).loc main_arg5) = m ((d : Thread nD τ).loc main_arg5)

/-- A whole buffer held is the memory's. -/
theorem agree (s : Phys nD τ sig (Elt F)) (ℓ : Loc nD τ sig) (f : Buf (Elt F) ℓ) :
    iprop(SI s ∗ (ℓ ↦{fullShare} f)) ⊢ (iprop(⌜s.mem.mem ℓ = f⌝ ∗ SI s) : sProp 𝕄) := by
  iintro H
  ihave H := (persistent_entails_right (SI_pointsTo_agree (st := s) (ℓ := ℓ) (I := Finset.univ) (q := fullShare) (f := f))) $$ H
  icases H with ⟨%h, HSI, -⟩
  isplitr
  · ipureintro
    exact funext fun i => h i (Finset.mem_univ i)
  iexact HSI

theorem hfin (d : Dev nD) (s : Phys nD τ sig (Elt F)) : iprop(FIN m d ∗ SI s) ⊢ (⌜fq m d s⌝ : sProp 𝕄) := by
  unfold FIN fq
  iintro ⟨⟨H7, H0, H1, H2, H3, H4, H5⟩, HSI⟩
  ihave H := (agree s _ _) $$ [HSI H7]
  · isplitl [HSI] <;> iassumption
  icases H with ⟨%h7, HSI⟩
  ihave H := (agree s _ _) $$ [HSI H0]
  · isplitl [HSI] <;> iassumption
  icases H with ⟨%h0, HSI⟩
  ihave H := (agree s _ _) $$ [HSI H1]
  · isplitl [HSI] <;> iassumption
  icases H with ⟨%h1, HSI⟩
  ihave H := (agree s _ _) $$ [HSI H2]
  · isplitl [HSI] <;> iassumption
  icases H with ⟨%h2, HSI⟩
  ihave H := (agree s _ _) $$ [HSI H3]
  · isplitl [HSI] <;> iassumption
  icases H with ⟨%h3, HSI⟩
  ihave H := (agree s _ _) $$ [HSI H4]
  · isplitl [HSI] <;> iassumption
  icases H with ⟨%h4, HSI⟩
  ihave H := (agree s _ _) $$ [HSI H5]
  · isplitl [HSI] <;> iassumption
  icases H with ⟨%h5, HSI⟩
  ipureintro
  exact ⟨h7, h0, h1, h2, h3, h4, h5⟩

/-- What every final memory holds, every counter at zero. -/
def QC : PUnit × MemSt nD τ sig (Elt F) → Prop := fun r =>
  (∀ c : Dev nD, r.2.mem ((c : Thread nD τ).loc main_v7) = result m c
    ∧ r.2.mem ((c : Thread nD τ).loc main_arg0) = m ((c : Thread nD τ).loc main_arg0) ∧ r.2.mem ((c : Thread nD τ).loc main_arg1) = m ((c : Thread nD τ).loc main_arg1)
    ∧ r.2.mem ((c : Thread nD τ).loc main_arg2) = m ((c : Thread nD τ).loc main_arg2) ∧ r.2.mem ((c : Thread nD τ).loc main_arg3) = m ((c : Thread nD τ).loc main_arg3)
    ∧ r.2.mem ((c : Thread nD τ).loc main_arg4) = m ((c : Thread nD τ).loc main_arg4) ∧ r.2.mem ((c : Thread nD τ).loc main_arg5) = m ((c : Thread nD τ).loc main_arg5))
  ∧ r.2.sem = fun _ => 0

set_option backward.isDefEq.respectTransparency.types false in
theorem run_main [∀ e, Nonempty (Elt F e)] (hin : InRange m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hin)
    (fun q _ => match q with | 0 => SparseCore.Cfg.VecSplit.of_plain (vecSplit m))
    m ρ main (fun d => ghost (F := F) d) (FIN m) (u₀ (F := F)) (sep_elim_left.trans (hu₀ m)) (hmain m ρ) (fq m) (hfin m) (QC m) (fun _ h hz => ⟨h, hz⟩)

end Cert.Proof.Lookup

end
-- ==== Proof.Range.lean ====
/-
  The precondition read: every index names a row of the table.
-/
module

public import proofs.«01_k».proof.Proof.Setup
public import proofs.«01_k».proof.Proof.Gen.Pre_in_vocab
public import proofs.«01_k».proof.Defs
public import Idealize.ShloMosaic.Lib.ReduceAll
public import Idealize.ShloMosaic.Lib.Pipeline.Value

@[expose] public section

noncomputable section

namespace Cert.Proof.Lookup

open Cert.KernelIdeal Cert.KernelIdeal.Gen

open Idealize.ShloMosaic Idealize.ShloMosaic.TcCoe

variable {F : FTy → Type} [FloatOps F]

/-- A word at least 0 and below 1000000, compared signed, is below 1000000 as a number. -/
theorem word_lt (v : BitVec 32) (e : IntOp.andi (IntOp.cmpi .sge v 0#32) (IntOp.cmpi .slt v 1000000#32) = 1#1) : v.toNat < 1000000 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  omega

/-- The precondition all ones gives every index below 1000000. -/
theorem index_lt (a0 : IVec S16384x6 32) (a1 : FVec F S1000000x128 .f32) (a2 : FVec F S768x128 .f32) (a3 : FVec F S128 .f32)
    (a4 : FVec F S128x91 .f32) (a5 : FVec F S91 .f32) (h : Cert.Pre_in_vocab.fn (F := F) a0 a1 a2 a3 a4 a5 = fun _ => 1#1) (j : S16384x6.Idx) :
    (a0 j).toNat < 1000000 := by
  haveI : Subsingleton (Cert.Pre_in_vocab.S_ : Shape).Idx := ⟨fun a b => funext fun k => k.elim0⟩
  have e := congrFun h (fun k => k.elim0)
  unfold Cert.Pre_in_vocab.fn at e
  exact word_lt _ (Host.reduce_andi_all _ _ _ _ _ e j)

/-- The flat list's entry `j` is the index at batch `j % 16384` and field `j / 16384`. -/
def entryOf (j : Fin 98304) : S16384x6.Idx
  | 0 => ⟨j.val % 16384, Nat.mod_lt _ (by decide)⟩
  | 1 => ⟨j.val / 16384, Nat.div_lt_of_lt_mul j.isLt⟩

theorem flat_eq (m : (ℓ : Loc nD τ sig) → Buf (Elt F) ℓ) (d : Dev nD) (j : S98304.Idx) :
    flat m d j = (m (aLoc d) : S16384x6.Idx → BitVec 32) (entryOf (j 0)) := by
  have hj : (j 0).val < 98304 := (j 0).isLt
  unfold flat
  rw [shapeCast_apply _ _ j (fun | 0 => ⟨(j 0).val / 16384, Nat.div_lt_of_lt_mul hj⟩ | 1 => ⟨(j 0).val % 16384, Nat.mod_lt _ (by decide)⟩ : S6x16384.Idx) (by
    rw [Shape.rowMajor_val_two, Shape.rowMajor_val_one]
    show (j 0).val / 16384 * 16384 + (j 0).val % 16384 = (j 0).val
    omega)]
  exact transpose_apply _ _ _ _ _ fun b => match b with
    | ⟨0, _⟩ => rfl
    | ⟨1, _⟩ => rfl

/-- So the flat list is in range when every index is. -/
theorem inRange_of (m : (ℓ : Loc nD τ sig) → Buf (Elt F) ℓ)
    (h : ∀ (d : Dev nD) (j : S16384x6.Idx), ((m (aLoc d) : S16384x6.Idx → BitVec 32) j).toNat < 1000000) : InRange m := by
  intro d j
  rw [flat_eq]
  exact h d _

end Cert.Proof.Lookup

end
-- ==== Proof.Frames.lean ====
/-
  The three frames: the printed kernel and its idealization are one text, so one run serves both; the reference's run is
  the generated one.
-/
module

public import proofs.«01_k».proof.Proof.Run
public import proofs.«01_k».proof.Proof.Range
public import proofs.«01_k».proof.Proof.Gen.Kernel
public import proofs.«01_k».proof.Proof.Gen.Kernel.Skeleton
public import proofs.«01_k».proof.Proof.Gen.ReferenceIdeal.Run
public import Idealize.ShloMosaic.Lib.Quiescent

@[expose] public section

noncomputable section

namespace Cert.Proof.Lookup

open Idealize.ShloMosaic Idealize.ShloMosaic.TcCoe Idealize.SL.Sem

/-- The run with the arguments alone, at any float values. -/
theorem frame_any {F : FTy → Type} [FloatOps F] [∀ e, Nonempty (Elt F e)]
    (m : (ℓ : Loc Cert.KernelIdeal.nD Cert.KernelIdeal.τ Cert.KernelIdeal.sig) → Buf (Elt F) ℓ) (ρ : Dev Cert.KernelIdeal.nD → PrngReg) (hin : InRange m) :
    θ_run (Cert.KernelIdeal.defs (F := F)) (Cert.KernelIdeal.threads (F := F)) ⟨m, fun _ => 0, ρ⟩ (fun r => (∀ c : Dev Cert.KernelIdeal.nD,
      r.2.mem ((c : Thread Cert.KernelIdeal.nD Cert.KernelIdeal.τ).loc Cert.KernelIdeal.main_arg0) = m ((c : Thread Cert.KernelIdeal.nD Cert.KernelIdeal.τ).loc Cert.KernelIdeal.main_arg0)
      ∧ r.2.mem ((c : Thread Cert.KernelIdeal.nD Cert.KernelIdeal.τ).loc Cert.KernelIdeal.main_arg1) = m ((c : Thread Cert.KernelIdeal.nD Cert.KernelIdeal.τ).loc Cert.KernelIdeal.main_arg1)
      ∧ r.2.mem ((c : Thread Cert.KernelIdeal.nD Cert.KernelIdeal.τ).loc Cert.KernelIdeal.main_arg2) = m ((c : Thread Cert.KernelIdeal.nD Cert.KernelIdeal.τ).loc Cert.KernelIdeal.main_arg2)
      ∧ r.2.mem ((c : Thread Cert.KernelIdeal.nD Cert.KernelIdeal.τ).loc Cert.KernelIdeal.main_arg3) = m ((c : Thread Cert.KernelIdeal.nD Cert.KernelIdeal.τ).loc Cert.KernelIdeal.main_arg3)
      ∧ r.2.mem ((c : Thread Cert.KernelIdeal.nD Cert.KernelIdeal.τ).loc Cert.KernelIdeal.main_arg4) = m ((c : Thread Cert.KernelIdeal.nD Cert.KernelIdeal.τ).loc Cert.KernelIdeal.main_arg4)
      ∧ r.2.mem ((c : Thread Cert.KernelIdeal.nD Cert.KernelIdeal.τ).loc Cert.KernelIdeal.main_arg5) = m ((c : Thread Cert.KernelIdeal.nD Cert.KernelIdeal.τ).loc Cert.KernelIdeal.main_arg5))
      ∧ r.2.sem = fun _ => 0) :=
  (θ_run Cert.KernelIdeal.defs _ _).mono (fun _ q => ⟨fun c => (q.1 c).2, q.2⟩) (run_main m ρ hin)

theorem frame_ideal : Cert.quiescent_KernelIdeal := fun m ρ h =>
  frame_any (F := Ideal) m ρ (inRange_of m fun d j => index_lt (F := Ideal) _ _ _ _ _ _ (h d) j)

section
variable [i : Cert.Kernel.Facts] [j : Cert.KernelIdeal.Facts]

/-- The two programs' tables of bodies agree label by label. -/
theorem bodies_eq : Cert.Kernel.defs₀ (F := Bits) = Cert.KernelIdeal.defs₀ (F := Bits) := by
  funext κ ℓ a
  rcases κ with _ | _ | _
  all_goals
    match ℓ, a with
    | 0, _ => rfl
    | 1, _ => rfl

theorem defs_eq : Cert.Kernel.defs (F := Bits) = Cert.KernelIdeal.defs (F := Bits) :=
  congrArg (fun D => (Cert.KernelIdeal.sc (F := Bits)).defs (Pipeline.defs (Cert.KernelIdeal.pcfgs (F := Bits)) D)) bodies_eq

/-- A run under one table is a run under an equal one. -/
theorem run_of_eq {D : _} (e : D = Cert.KernelIdeal.defs (F := Bits)) {s Q}
    (h : θ_run (Cert.KernelIdeal.defs (F := Bits)) (Cert.KernelIdeal.threads (F := Bits)) s Q) :
    θ_run D (Cert.KernelIdeal.threads (F := Bits)) s Q := e ▸ h

end

theorem frame_kernel : Cert.quiescent_Kernel := fun m ρ h =>
  run_of_eq defs_eq
    (frame_any (F := Bits) m ρ (inRange_of m fun d j => index_lt (F := Bits) _ _ _ _ _ _ (h d) j))

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof.Lookup

end
-- ==== Proof.Layers.lean ====
/-
  The two dense layers over the extended reals: what the kernel computes at an index of its result. The kernel adds the
  products of the six fields' rows with their slabs of the first weight matrix; together they are one sum over the fields
  and the lanes.
-/
module

public import proofs.«01_k».proof.Proof.Range
public import proofs.«01_k».proof.Proof.Run
public import Idealize.ShloMosaic.Lib.MatmulPlain
public import Idealize.ShloMosaic.Lib.ValueIdx

@[expose] public section

set_option maxRecDepth 16384

noncomputable section

namespace Cert.Proof.Lookup

open Cert.KernelIdeal Cert.KernelIdeal.Gen
open Idealize.ShloMosaic Idealize.ShloMosaic.TcCoe Idealize.ShloMosaic.ValueIdx

/-- The row of the first weight matrix that meets lane `l` of field `f`. -/
def slot (f : Fin 6) (l : Fin 128) : Fin 768 := ⟨128 * f.val + l.val, by omega⟩

/-- The two layers of one example, from its six embedded fields. -/
def net (x : Fin 6 → Fin 128 → EReal) (W : S768x128.Idx → EReal) (b : S128.Idx → EReal) (O : S128x91.Idx → EReal) (e : S91.Idx → EReal)
    (q : Fin 91) : EReal :=
  (∑ k : Fin 128, max ((∑ f : Fin 6, ∑ l : Fin 128, x f l * W (ix2 (slot f l) k)) + b (ix1 k)) 0 * O (ix2 k q)) + e (ix1 q)

/-- A product of a block of rows with a slab, into zero. -/
theorem product_apply (x : FVec Ideal S1024x128 .f32) (w : FVec Ideal S128x128 .f32) (r : Fin 1024) (k : Fin 128) :
    matmul dot_S1024x128_S128x128_S1024x128_1_0_0_1_n_n none x w (constant S1024x128 .f32 0x00000000#32) (ix2 r k)
      = ∑ l : Fin 128, (x (ix2 r l) * w (ix2 l k) : EReal) := by
  refine (Ideal.matmul_plain_apply (M := 1024) (K := 128) (N := 128) none x w _ r k).trans ?_
  rw [constant_apply, Ideal.ofBits_zero_f32, zero_add]

theorem output_apply (x : FVec Ideal S1024x128 .f32) (w : FVec Ideal S128x91 .f32) (r : Fin 1024) (q : Fin 91) :
    matmul dot_S1024x128_S128x91_S1024x91_1_0_0_1_n_n none x w (constant S1024x91 .f32 0x00000000#32) (ix2 r q)
      = ∑ k : Fin 128, (x (ix2 r k) * w (ix2 k q) : EReal) := by
  refine (Ideal.matmul_plain_apply (M := 1024) (K := 128) (N := 91) none x w _ r q).trans ?_
  rw [constant_apply, Ideal.ofBits_zero_f32, zero_add]

theorem xSlab_apply (x : Vec Ideal S6x1024x128 .f32) (f : Fin 6) (r : Fin 1024) (l : Fin 128) :
    shapeCast S1024x128 (xSlab x f) shapeCasts_S1x1024x128_S1024x128 (ix2 r l) = x (ix3 f r l) := by
  rw [shapeCast_apply _ _ _ (ix3 (0 : Fin 1) r l) (by
    rw [Shape.rowMajor_val_three, Shape.rowMajor_val_two]
    show (0 * 1024 + r.val) * 128 + l.val = r.val * 128 + l.val
    omega)]
  exact congrArg x (funext fun a => match a with | ⟨0, _⟩ => rfl | ⟨1, _⟩ => rfl | ⟨2, _⟩ => rfl)

theorem wSlab_apply (w : Vec Ideal S6x128x128 .f32) (f : Fin 6) (l k : Fin 128) :
    shapeCast S128x128 (wSlab w f) shapeCasts_S1x128x128_S128x128 (ix2 l k) = w (ix3 f l k) := by
  rw [shapeCast_apply _ _ _ (ix3 (0 : Fin 1) l k) (by
    rw [Shape.rowMajor_val_three, Shape.rowMajor_val_two]
    show (0 * 128 + l.val) * 128 + k.val = l.val * 128 + k.val
    omega)]
  exact congrArg w (funext fun a => match a with | ⟨0, _⟩ => rfl | ⟨1, _⟩ => rfl | ⟨2, _⟩ => rfl)

/-- One field's product at an index. -/
theorem field_apply (x : Vec Ideal S6x1024x128 .f32) (w : Vec Ideal S6x128x128 .f32) (f : Fin 6) (r : Fin 1024) (k : Fin 128) :
    matmul dot_S1024x128_S128x128_S1024x128_1_0_0_1_n_n none (shapeCast S1024x128 (xSlab x f) shapeCasts_S1x1024x128_S1024x128 : FVec Ideal S1024x128 .f32)
        (shapeCast S128x128 (wSlab w f) shapeCasts_S1x128x128_S128x128 : FVec Ideal S128x128 .f32) (constant S1024x128 .f32 0x00000000#32) (ix2 r k)
      = ∑ l : Fin 128, (x (ix3 f r l) * w (ix3 f l k) : EReal) := by
  rw [product_apply]
  exact Finset.sum_congr rfl fun l _ => by rw [xSlab_apply, wSlab_apply]

theorem hbias_apply (b : Vec Ideal S1x128 .f32) (r : Fin 1024) (k : Fin 128) :
    broadcastTo S1024x128 (shapeCast S1x128 b shapeCasts_S1x128_S1x128) broadcasts_S1x128_S1024x128 (ix2 r k) = b (ix2 (0 : Fin 1) k) := by
  rw [broadcastTo_apply _ _ _ (ix2 (0 : Fin 1) k) fun a => match a with | ⟨0, _⟩ => rfl | ⟨1, _⟩ => rfl]
  exact shapeCast_apply _ _ _ _ rfl

theorem obias_apply (b : Vec Ideal S1x91 .f32) (r : Fin 1024) (q : Fin 91) :
    broadcastTo S1024x91 (shapeCast S1x91 b shapeCasts_S1x91_S1x91) broadcasts_S1x91_S1024x91 (ix2 r q) = b (ix2 (0 : Fin 1) q) := by
  rw [broadcastTo_apply _ _ _ (ix2 (0 : Fin 1) q) fun a => match a with | ⟨0, _⟩ => rfl | ⟨1, _⟩ => rfl]
  exact shapeCast_apply _ _ _ _ rfl

/-- The hidden layer the kernel computes of a block of rows. -/
def hid (x : Vec Ideal S6x1024x128 .f32) (w : Vec Ideal S6x128x128 .f32) (b : Vec Ideal S1x128 .f32) : FVec Ideal S1024x128 .f32 :=
  let p (f : Fin 6) : FVec Ideal S1024x128 .f32 :=
    matmul dot_S1024x128_S128x128_S1024x128_1_0_0_1_n_n none (shapeCast S1024x128 (xSlab x f) shapeCasts_S1x1024x128_S1024x128 : FVec Ideal S1024x128 .f32)
      (shapeCast S128x128 (wSlab w f) shapeCasts_S1x128x128_S128x128 : FVec Ideal S128x128 .f32) (constant S1024x128 .f32 0x00000000#32)
  maximumf (addf (addf (addf (addf (addf (addf (p 0) (p 1)) (p 2)) (p 3)) (p 4)) (p 5))
    (broadcastTo S1024x128 (shapeCast S1x128 b shapeCasts_S1x128_S1x128) broadcasts_S1x128_S1024x128))
    (broadcast S1024x128 (Scalar.ofBits .f32 0x00000000#32))

theorem mlp_eq (x : Vec Ideal S6x1024x128 .f32) (w : Vec Ideal S6x128x128 .f32) (b : Vec Ideal S1x128 .f32) (o : Vec Ideal S128x91 .f32)
    (e : Vec Ideal S1x91 .f32) :
    mlp x w b o e = addf (matmul (φ₂ := .f32) dot_S1024x128_S128x91_S1024x91_1_0_0_1_n_n none (hid x w b) (o : FVec Ideal S128x91 .f32) (constant S1024x91 .f32 0x00000000#32))
      (broadcastTo S1024x91 (shapeCast S1x91 e shapeCasts_S1x91_S1x91) broadcasts_S1x91_S1024x91) := rfl

theorem hid_apply (x : Vec Ideal S6x1024x128 .f32) (w : Vec Ideal S6x128x128 .f32) (b : Vec Ideal S1x128 .f32) (r : Fin 1024) (k : Fin 128) :
    hid x w b (ix2 r k) = max ((∑ f : Fin 6, ∑ l : Fin 128, (x (ix3 f r l) * w (ix3 f l k) : EReal)) + b (ix2 (0 : Fin 1) k)) (0 : EReal) := by
  unfold hid
  simp only [maximumf_apply, addf_apply, field_apply]
  rw [Fin.sum_univ_six, hbias_apply, broadcast_apply]
  exact congrArg (max _) Ideal.ofBits_zero_f32

theorem mlp_apply (x : Vec Ideal S6x1024x128 .f32) (w : Vec Ideal S6x128x128 .f32) (b : Vec Ideal S1x128 .f32) (o : Vec Ideal S128x91 .f32)
    (e : Vec Ideal S1x91 .f32) (r : Fin 1024) (q : Fin 91) :
    mlp x w b o e (ix2 r q)
      = (∑ k : Fin 128, max ((∑ f : Fin 6, ∑ l : Fin 128, (x (ix3 f r l) * w (ix3 f l k) : EReal)) + b (ix2 (0 : Fin 1) k)) (0 : EReal) * o (ix2 k q))
        + e (ix2 (0 : Fin 1) q) := by
  rw [mlp_eq, addf_apply, output_apply, obias_apply]
  simp only [hid_apply]

variable (m : (ℓ : Loc nD τ sig) → Buf (Elt Ideal) ℓ)

/-- The row of the table that example `r` names in field `f`. -/
def named (d : Dev nD) (r : Fin 16384) (f : Fin 6) (l : Fin 128) : EReal :=
  (m (xLoc d) : S1000000x128.Idx → EReal) (ix2 (asRow ((m (aLoc d) : S16384x6.Idx → BitVec 32) (ix2 r f))) l)

theorem rows_apply (d : Dev nD) (f : Fin 6) (r : Fin 16384) (l : Fin 128) : rows m d (ix3 f r l) = named m d r f l := by
  unfold rows
  rw [shapeCast_apply _ _ _ (ix2 (⟨16384 * f.val + r.val, by omega⟩ : Fin 98304) l) (by
    rw [Shape.rowMajor_val_two, Shape.rowMajor_val_three]
    show (16384 * f.val + r.val) * 128 + l.val = (f.val * 16384 + r.val) * 128 + l.val
    omega)]
  unfold looked named
  refine congrArg (m (xLoc d) : S1000000x128.Idx → EReal) (funext fun a => match a with | ⟨0, _⟩ => ?_ | ⟨1, _⟩ => rfl)
  refine congrArg asRow ((flat_eq m d _).trans (congrArg (m (aLoc d) : S16384x6.Idx → BitVec 32) (funext fun a => Fin.ext ?_)))
  match a with
  | ⟨0, _⟩ => show (16384 * f.val + r.val) % 16384 = r.val; omega
  | ⟨1, _⟩ => show (16384 * f.val + r.val) / 16384 = f.val; omega

theorem wh_apply (d : Dev nD) (f : Fin 6) (l k : Fin 128) :
    wh m d (ix3 f l k) = (m ((d : Thread nD τ).loc main_arg2) : S768x128.Idx → EReal) (ix2 (slot f l) k) :=
  shapeCast_apply (s := S768x128) (m ((d : Thread nD τ).loc main_arg2) : S768x128.Idx → EReal) shapeCasts_S768x128_S6x128x128 _ _ (by
    rw [Shape.rowMajor_val_two, Shape.rowMajor_val_three]
    show (128 * f.val + l.val) * 128 + k.val = (f.val * 128 + l.val) * 128 + k.val
    omega)

theorem bh_apply (d : Dev nD) (k : Fin 128) : bh m d (ix2 (0 : Fin 1) k) = (m ((d : Thread nD τ).loc main_arg3) : S128.Idx → EReal) (ix1 k) :=
  shapeCast_apply (s := S128) (m ((d : Thread nD τ).loc main_arg3) : S128.Idx → EReal) shapeCasts_S128_S1x128 _ _ (by
    rw [Shape.rowMajor_val_one, Shape.rowMajor_val_two]
    show k.val = 0 * 128 + k.val
    omega)

theorem bo_apply (d : Dev nD) (q : Fin 91) : bo m d (ix2 (0 : Fin 1) q) = (m ((d : Thread nD τ).loc main_arg5) : S91.Idx → EReal) (ix1 q) :=
  shapeCast_apply (s := S91) (m ((d : Thread nD τ).loc main_arg5) : S91.Idx → EReal) shapeCasts_S91_S1x91 _ _ (by
    rw [Shape.rowMajor_val_one, Shape.rowMajor_val_two]
    show q.val = 0 * 91 + q.val
    omega)

/-- The kernel's result: the two layers of each example's named rows. -/
theorem result_apply (d : Dev nD) (r : Fin 16384) (q : Fin 91) :
    (result m d : S16384x91.Idx → EReal) (ix2 r q)
      = net (named m d r) (m ((d : Thread nD τ).loc main_arg2)) (m ((d : Thread nD τ).loc main_arg3))
          (m ((d : Thread nD τ).loc main_arg4)) (m ((d : Thread nD τ).loc main_arg5)) q := by
  unfold result mlpAll net
  rw [show inBlk (ix2 r q) = ix2 (⟨r.val % 1024, Nat.mod_lt _ (by decide)⟩ : Fin 1024) q from
    funext fun a => match a with | ⟨0, _⟩ => rfl | ⟨1, _⟩ => rfl, mlp_apply]
  have hrow (f : Fin 6) (l : Fin 128) : blkRow (ix2 r q) (ix3 f (⟨r.val % 1024, Nat.mod_lt _ (by decide)⟩ : Fin 1024) l) = ix3 f r l :=
    funext fun a => Fin.ext (match a with
      | ⟨0, _⟩ => rfl
      | ⟨1, _⟩ => by show 1024 * (r.val / 1024) + r.val % 1024 = r.val; omega
      | ⟨2, _⟩ => rfl)
  simp only [hrow, rows_apply, wh_apply, bh_apply, bo_apply]
  rfl

end Cert.Proof.Lookup

end
-- ==== Proof.Plain.lean ====
/-
  The reference over the extended reals, read at an index of its result, when every index names a row of the table: the
  two layers of each example's rows.
-/
module

public import proofs.«01_k».proof.Proof.Layers
public import proofs.«01_k».proof.Proof.Gen.ReferenceIdeal.Run
public import Idealize.ShloMosaic.Lib.StackMember
public import Idealize.ShloMosaic.Lib.ReduceAll
public import Idealize.ShloMosaic.Lib.StableHlo.Predicate

@[expose] public section

set_option maxRecDepth 16384

noncomputable section

namespace Cert.Proof.Lookup

open Cert.ReferenceIdeal Cert.ReferenceIdeal.Gen
open Idealize.ShloMosaic Idealize.ShloMosaic.TcCoe Idealize.ShloMosaic.ValueIdx Idealize.ShloMosaic.StableHlo.Predicate

/-! ## The rows taken -/

/-- A negative index counted from the table's end. -/
def wrapped (a : IVec S16384x6 32) : IVec S16384x6 32 :=
  select (cmpi .slt a (broadcastInDim S16384x6 ![] bcast_S_S16384x6 (constantI S_ 32 0#32)))
    (addi a (broadcastInDim S16384x6 ![] bcast_S_S16384x6 (constantI S_ 32 1000000#32))) a

/-- The rows' numbers as the gather takes them. -/
def starts (a : IVec S16384x6 32) : IVec S16384x6x1 32 := broadcastInDim S16384x6x1 ![0, 1] bcast_S16384x6_S16384x6x1_0_1 a

/-- Which of them name a row. -/
def inside (a : IVec S16384x6 32) : IVec S16384x6x1 1 :=
  andi (cmpi .sge (starts a) (broadcastInDim S16384x6x1 ![] bcast_S_S16384x6x1 (constantI S_ 32 0#32)))
    (cmpi .sle (starts a) (broadcastInDim S16384x6x1 ![0, 1, 2] bcast_S1x1x1_S16384x6x1_0_1_2 (broadcastInDim S1x1x1 ![2] bcast_S1_S1x1x1_2 (constantI S1 32 999999#32))))

/-- The rows taken, not a number where the index names none. -/
def taken (a : IVec S16384x6 32) (t : FVec Ideal S1000000x128 .f32) : FVec Ideal S16384x6x128 .f32 :=
  select (broadcastInDim S16384x6x128 ![0, 1] bcast_S16384x6_S16384x6x128_0_1
      (Host.reduce IntOp.andi (inside (wrapped a)) (constantI S_ 1 1#1) reducesTo_S16384x6x1_S16384x6_d2 h_S_))
    (Host.gather gather_S1000000x128_S16384x6x1_S16384x6x128_2_0_n_n_0_2_1128 t (starts (wrapped a)))
    (broadcastInDim S16384x6x128 ![] bcast_S_S16384x6x128 (constant S_ .f32 0x7FC00000#32))

theorem wrapped_eq (a : IVec S16384x6 32) (h : ∀ j, (a j).toNat < 1000000) : wrapped a = a := by
  funext j
  have e : IntOp.cmpi .slt (a j) 0#32 = 0#1 := by
    rcases BitVec.eq_zero_or_eq_one (IntOp.cmpi .slt (a j) 0#32) with e | e
    · exact e
    · exact absurd ((slt_iff_toNat (by have := h j; omega) (by decide)).mp e) (Nat.not_lt_zero _)
  show Scalar.select (IntOp.cmpi .slt (a j) 0#32) _ (a j) = a j
  rw [e]; rfl

theorem starts_apply (a : IVec S16384x6 32) (r : Fin 16384) (f : Fin 6) (z : Fin 1) : starts a (ix3 r f z) = a (ix2 r f) :=
  broadcastInDim_apply _ _ _ _ _ fun c => match c with | ⟨0, _⟩ => rfl | ⟨1, _⟩ => rfl

theorem inside_apply (a : IVec S16384x6 32) (h : ∀ j, (a j).toNat < 1000000) (i : S16384x6x1.Idx) : inside a i = 1#1 := by
  have at_coords (r : Fin 16384) (f : Fin 6) (z : Fin 1) : inside a (ix3 r f z) = 1#1 := by
    show IntOp.andi (IntOp.cmpi .sge (starts a (ix3 r f z)) 0#32) (IntOp.cmpi .sle (starts a (ix3 r f z)) 999999#32) = 1#1
    have hlt := h (ix2 r f)
    rw [starts_apply, (sge_iff_toNat (by omega) (by decide)).mpr (Nat.zero_le _),
      (sle_iff_toNat (by omega) (by decide)).mpr (by show _ ≤ 999999; omega)]
    rfl
  exact (congrArg (inside a) (eq_ix3 i)).trans (at_coords _ _ _)

/-- The gather read at an index: the row its start names, read signed and kept within the table, at the same lane. -/
theorem gather_apply (t : FVec Ideal S1000000x128 .f32) (s : IVec S16384x6x1 32) (r : Fin 16384) (f : Fin 6) (l : Fin 128) :
    Host.gather gather_S1000000x128_S16384x6x1_S16384x6x128_2_0_n_n_0_2_1128 t s (ix3 r f l)
      = t (ix2 (⟨min (s (ix3 r f (0 : Fin 1))).toInt.toNat 999999, by omega⟩ : Fin 1000000) l) := by
  unfold Host.gather
  refine congrArg t (funext fun a => Fin.ext ?_)
  show GatherDims.start _ (ix3 r f l) s a + GatherDims.batchCoord _ (ix3 r f l) a + GatherDims.offCoord _ (ix3 r f l) a = _
  rw [GatherDims.batchCoord_eq_zero _ _ _ List.not_mem_nil, Nat.add_zero]
  have h01 : a = 0 ∨ a = 1 := match a with | ⟨0, _⟩ => Or.inl rfl | ⟨1, _⟩ => Or.inr rfl
  rcases h01 with rfl | rfl
  · rw [GatherDims.offCoord_eq_zero _ _ _ (fun h => ((GatherDims.mem_sKept _ _).mp h).1 (List.mem_singleton.mpr rfl)), Nat.add_zero]
    unfold GatherDims.start
    rw [dif_pos (show (0 : Fin 2) ∈ gather_S1000000x128_S16384x6x1_S16384x6x128_2_0_n_n_0_2_1128.startIndexMap from List.mem_singleton.mpr rfl)]
    refine congrArg (fun w : BitVec 32 => min w.toInt.toNat 999999) (congrArg s (funext fun b => Fin.ext ?_))
    match b with
    | ⟨0, _⟩ => rfl
    | ⟨1, _⟩ => rfl
    | ⟨2, _⟩ => rfl
  · unfold GatherDims.start GatherDims.offCoord
    rw [dif_neg (show (1 : Fin 2) ∉ gather_S1000000x128_S16384x6x1_S16384x6x128_2_0_n_n_0_2_1128.startIndexMap by decide),
      dif_pos (show (1 : Fin 2) ∈ gather_S1000000x128_S16384x6x1_S16384x6x128_2_0_n_n_0_2_1128.sKept by decide), Nat.zero_add]
    rfl

theorem taken_apply (a : IVec S16384x6 32) (h : ∀ j, (a j).toNat < 1000000) (t : FVec Ideal S1000000x128 .f32) (r : Fin 16384) (f : Fin 6) (l : Fin 128) :
    taken a t (ix3 r f l) = t (ix2 (asRow (a (ix2 r f))) l) := by
  unfold taken
  rw [wrapped_eq a h, select_apply]
  have e : broadcastInDim S16384x6x128 ![0, 1] bcast_S16384x6_S16384x6x128_0_1
      (Host.reduce IntOp.andi (inside a) (constantI S_ 1 1#1) reducesTo_S16384x6x1_S16384x6_d2 h_S_) (ix3 r f l) = 1#1 :=
    (broadcastInDim_apply _ _ _ _ (ix2 r f) fun c => match c with | ⟨0, _⟩ => rfl | ⟨1, _⟩ => rfl).trans
      (Host.reduce_andi_one _ _ _ _ _ rfl (inside_apply a h))
  rw [e, select_one, gather_apply]
  refine congrArg t (congrArg (fun w : Fin 1000000 => ix2 w l) (Fin.ext ?_))
  have hlt := h (ix2 r f)
  show min (starts a (ix3 r f (0 : Fin 1))).toInt.toNat 999999 = (a (ix2 r f)).toNat % 1000000
  rw [starts_apply, toInt_eq_toNat_of_lt (by omega), Int.toNat_natCast, Nat.mod_eq_of_lt hlt]
  omega

/-! ## The two layers -/

/-- The reference's hidden layer as a function of its arguments. -/
def hiddenLayer (a : IVec S16384x6 32) (t : FVec Ideal S1000000x128 .f32) (W : FVec Ideal S768x128 .f32) (b : FVec Ideal S128 .f32) :
    FVec Ideal S16384x128 .f32 :=
  maximumf (addf (Host.dotGeneral dot_S16384x768_S768x128_S16384x128_1_0_0_1_n_n none
      (shapeCast S16384x768 (taken a t) shapeCasts_S16384x6x128_S16384x768 : FVec Ideal S16384x768 .f32) W)
    (broadcastInDim S16384x128 ![0, 1] bcast_S1x128_S16384x128_0_1 (broadcastInDim S1x128 ![1] bcast_S128_S1x128_1 b)))
    (broadcastInDim S16384x128 ![] bcast_S_S16384x128 (constant S_ .f32 0x00000000#32))

/-- The reference's result as a function of its arguments. -/
def plain (a : IVec S16384x6 32) (t : FVec Ideal S1000000x128 .f32) (W : FVec Ideal S768x128 .f32) (b : FVec Ideal S128 .f32)
    (O : FVec Ideal S128x91 .f32) (e : FVec Ideal S91 .f32) : FVec Ideal S16384x91 .f32 :=
  addf (Host.dotGeneral dot_S16384x128_S128x91_S16384x91_1_0_0_1_n_n none (hiddenLayer a t W b) O)
    (broadcastInDim S16384x91 ![0, 1] bcast_S1x91_S16384x91_0_1 (broadcastInDim S1x91 ![1] bcast_S91_S1x91_1 e))

/-- A sum over the rows of the first weight matrix is a sum over the fields and the lanes. -/
theorem sum_slots (g : Fin 768 → EReal) : ∑ c : Fin 768, g c = ∑ f : Fin 6, ∑ l : Fin 128, g (slot f l) := by
  rw [← Fintype.sum_prod_type' (f := fun f l => g (slot f l)), ← Equiv.sum_comp (finProdFinEquiv : Fin 6 × Fin 128 ≃ Fin (6 * 128))]
  refine Finset.sum_congr rfl fun p _ => congrArg g (Fin.ext ?_)
  show p.2.val + 128 * p.1.val = 128 * p.1.val + p.2.val
  omega

theorem joined_apply (x : FVec Ideal S16384x6x128 .f32) (r : Fin 16384) (f : Fin 6) (l : Fin 128) :
    shapeCast S16384x768 x shapeCasts_S16384x6x128_S16384x768 (ix2 r (slot f l)) = x (ix3 r f l) :=
  shapeCast_apply x _ _ _ (by
    rw [Shape.rowMajor_val_three, Shape.rowMajor_val_two]
    show (r.val * 6 + f.val) * 128 + l.val = r.val * 768 + (128 * f.val + l.val)
    omega)

theorem hidden_bias (b : FVec Ideal S128 .f32) (r : Fin 16384) (k : Fin 128) :
    broadcastInDim S16384x128 ![0, 1] bcast_S1x128_S16384x128_0_1 (broadcastInDim S1x128 ![1] bcast_S128_S1x128_1 b) (ix2 r k) = b (ix1 k) :=
  (broadcastInDim_apply _ _ _ _ (ix2 (0 : Fin 1) k) fun c => match c with | ⟨0, _⟩ => rfl | ⟨1, _⟩ => rfl).trans
    (broadcastInDim_apply _ _ _ _ (ix1 k) fun c => match c with | ⟨0, _⟩ => rfl)

theorem output_bias (e : FVec Ideal S91 .f32) (r : Fin 16384) (q : Fin 91) :
    broadcastInDim S16384x91 ![0, 1] bcast_S1x91_S16384x91_0_1 (broadcastInDim S1x91 ![1] bcast_S91_S1x91_1 e) (ix2 r q) = e (ix1 q) :=
  (broadcastInDim_apply _ _ _ _ (ix2 (0 : Fin 1) q) fun c => match c with | ⟨0, _⟩ => rfl | ⟨1, _⟩ => rfl).trans
    (broadcastInDim_apply _ _ _ _ (ix1 q) fun c => match c with | ⟨0, _⟩ => rfl)

theorem zeros_apply (i : S16384x128.Idx) :
    (broadcastInDim S16384x128 ![] bcast_S_S16384x128 (constant (F := Ideal) S_ .f32 0x00000000#32) i : EReal) = 0 := Ideal.ofBits_zero_f32

theorem first_apply (x : FVec Ideal S16384x768 .f32) (W : FVec Ideal S768x128 .f32) (r : Fin 16384) (k : Fin 128) :
    Host.dotGeneral dot_S16384x768_S768x128_S16384x128_1_0_0_1_n_n none x W (ix2 r k) = ∑ c : Fin 768, (x (ix2 r c) * W (ix2 c k) : EReal) :=
  StackMember.dotGeneral_plain_apply (m := 16384) (k := 768) (n := 128) none x W r k

theorem second_apply (x : FVec Ideal S16384x128 .f32) (O : FVec Ideal S128x91 .f32) (r : Fin 16384) (q : Fin 91) :
    Host.dotGeneral dot_S16384x128_S128x91_S16384x91_1_0_0_1_n_n none x O (ix2 r q) = ∑ k : Fin 128, (x (ix2 r k) * O (ix2 k q) : EReal) :=
  StackMember.dotGeneral_plain_apply (m := 16384) (k := 128) (n := 91) none x O r q

theorem hiddenLayer_apply (a : IVec S16384x6 32) (h : ∀ j, (a j).toNat < 1000000) (t : FVec Ideal S1000000x128 .f32)
    (W : FVec Ideal S768x128 .f32) (b : FVec Ideal S128 .f32) (r : Fin 16384) (k : Fin 128) :
    hiddenLayer a t W b (ix2 r k)
      = max ((∑ f : Fin 6, ∑ l : Fin 128, (t (ix2 (asRow (a (ix2 r f))) l) * W (ix2 (slot f l) k) : EReal)) + b (ix1 k)) (0 : EReal) := by
  unfold hiddenLayer
  rw [maximumf_apply, addf_apply, first_apply, sum_slots, hidden_bias, zeros_apply]
  simp only [joined_apply, taken_apply a h]

/-- The reference's result at an index. -/
theorem plain_apply (a : IVec S16384x6 32) (h : ∀ j, (a j).toNat < 1000000) (t : FVec Ideal S1000000x128 .f32) (W : FVec Ideal S768x128 .f32)
    (b : FVec Ideal S128 .f32) (O : FVec Ideal S128x91 .f32) (e : FVec Ideal S91 .f32) (r : Fin 16384) (q : Fin 91) :
    plain a t W b O e (ix2 r q) = net (fun f l => t (ix2 (asRow (a (ix2 r f))) l)) W b O e q := by
  unfold plain
  rw [addf_apply, second_apply, output_bias]
  simp only [hiddenLayer_apply a h]
  rfl

end Cert.Proof.Lookup

end
-- ==== Proof.Equation.lean ====
/-
  The equation: over the extended reals, with every index naming a row of the table, the kernel's result is the
  reference's.
-/
module

public import proofs.«01_k».proof.Proof.Plain
public import proofs.«01_k».proof.Proof.Frames

@[expose] public section

set_option maxRecDepth 16384

noncomputable section

namespace Cert.Proof.Lookup

open Idealize.ShloMosaic Idealize.ShloMosaic.TcCoe Idealize.ShloMosaic.ValueIdx Idealize.SL.Sem

/-- The kernel's result as the reference's function of the kernel's arguments. -/
theorem result_eq (m : (ℓ : Loc Cert.KernelIdeal.nD Cert.KernelIdeal.τ Cert.KernelIdeal.sig) → Buf (Elt Ideal) ℓ) (d : Dev Cert.KernelIdeal.nD)
    (h : ∀ j : Cert.KernelIdeal.S16384x6.Idx, ((m (aLoc d) : Cert.KernelIdeal.S16384x6.Idx → BitVec 32) j).toNat < 1000000) :
    (result m d : Cert.KernelIdeal.S16384x91.Idx → EReal)
      = plain (m (aLoc d)) (m (xLoc d)) (m ((d : Thread Cert.KernelIdeal.nD Cert.KernelIdeal.τ).loc Cert.KernelIdeal.main_arg2))
        (m ((d : Thread Cert.KernelIdeal.nD Cert.KernelIdeal.τ).loc Cert.KernelIdeal.main_arg3))
        (m ((d : Thread Cert.KernelIdeal.nD Cert.KernelIdeal.τ).loc Cert.KernelIdeal.main_arg4))
        (m ((d : Thread Cert.KernelIdeal.nD Cert.KernelIdeal.τ).loc Cert.KernelIdeal.main_arg5)) := by
  funext i
  rw [eq_ix2 i]
  exact (result_apply m d (i 0) (i 1)).trans (plain_apply _ h _ _ _ _ _ (i 0) (i 1)).symm

/-- The reference leaves its function of its arguments. -/
theorem run_plain (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => ∀ c : Dev Cert.ReferenceIdeal.nD,
        r.2.mem ((c.tc : Thread Cert.ReferenceIdeal.nD Cert.ReferenceIdeal.τ).loc Cert.ReferenceIdeal.main_v10)
          = plain (m ((c.tc : Thread Cert.ReferenceIdeal.nD Cert.ReferenceIdeal.τ).loc Cert.ReferenceIdeal.main_arg0))
            (m ((c.tc : Thread Cert.ReferenceIdeal.nD Cert.ReferenceIdeal.τ).loc Cert.ReferenceIdeal.main_arg1))
            (m ((c.tc : Thread Cert.ReferenceIdeal.nD Cert.ReferenceIdeal.τ).loc Cert.ReferenceIdeal.main_arg2))
            (m ((c.tc : Thread Cert.ReferenceIdeal.nD Cert.ReferenceIdeal.τ).loc Cert.ReferenceIdeal.main_arg3))
            (m ((c.tc : Thread Cert.ReferenceIdeal.nD Cert.ReferenceIdeal.τ).loc Cert.ReferenceIdeal.main_arg4))
            (m ((c.tc : Thread Cert.ReferenceIdeal.nD Cert.ReferenceIdeal.τ).loc Cert.ReferenceIdeal.main_arg5))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)) :=
  Cert.ReferenceIdeal.Value.run (F := Ideal) m ρ

/-- The reference's frame under the precondition, which it doesn't need. -/
theorem frame_reference_pre : Cert.quiescent_ReferenceIdeal_pre_in_vocab := fun m ρ _ => frame_reference m ρ trivial

/-- From memories that agree on the arguments the two programs leave one result. -/
theorem algebraic : Cert.algebraic_KernelIdeal_ReferenceIdeal := by
  intro m g m' g' hpre hm
  have hlt := fun d j => index_lt (F := Ideal) _ _ _ _ _ _ (hpre d) j
  refine ⟨fun c => result m c, (θ_run _ _ _).mono (fun _ q => q.1) (run_main (F := Ideal) m g (inRange_of m hlt)),
    (θ_run _ _ _).mono (fun r q c => ⟨(q c).1.trans ?_, (q c).2⟩) (run_plain m' g')⟩
  obtain ⟨e0, e1, e2, e3, e4, e5⟩ := hm c
  rw [e0, e1, e2, e3, e4, e5]
  exact (result_eq m c (hlt c)).symm

end Cert.Proof.Lookup

end
-- ==== Proof.lean ====
/-
  The certificate's claim, assembled: the frames, the idealization and the equation of the two results.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_in_vocab
public import proofs.«01_k».proof.Proof.Frames
public import proofs.«01_k».proof.Proof.Equation

@[expose] public section

noncomputable section

namespace Cert.Proof

theorem claim : Cert.Claim :=
  ⟨Cert.Kernel.Gen.facts, Cert.KernelIdeal.Gen.facts, Cert.ReferenceIdeal.Gen.facts, Cert.Pre_in_vocab.Gen.facts,
    Lookup.frame_kernel, Lookup.frame_ideal, Lookup.frame_reference, Lookup.frame_reference_pre, trivial, Lookup.algebraic⟩

end Cert.Proof

end
